-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x2048x1024 : Shape := ⟨3, ![2, 2048, 1024]⟩
abbrev S1024x8 : Shape := ⟨2, ![1024, 8]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S2x2048x1024 .f32) (main_arg1 : FVec F S1024x8 .f32) (main_arg2 : FVec F S8x1024x2048 .f32) (main_arg3 : FVec F S8x2048 .f32) (main_arg4 : FVec F S8x2048x1024 .f32) (main_arg5 : FVec F S8x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Kernel.lean ====
abbrev S2x2048x1024 : Shape := ⟨3, ![2, 2048, 1024]⟩
abbrev S1024x8 : Shape := ⟨2, ![1024, 8]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S4096x1024 : Shape := ⟨2, ![4096, 1024]⟩
abbrev S8192x1 : Shape := ⟨2, ![8192, 1]⟩
abbrev S40x1 : Shape := ⟨2, ![40, 1]⟩
abbrev S8192 : Shape := ⟨1, ![8192]⟩
abbrev S40 : Shape := ⟨1, ![40]⟩
abbrev S4096 : Shape := ⟨1, ![4096]⟩
abbrev S_ : Shape := ⟨0, ![]⟩
abbrev S10240 : Shape := ⟨1, ![10240]⟩
abbrev S10240x1 : Shape := ⟨2, ![10240, 1]⟩
abbrev S10240x1024 : Shape := ⟨2, ![10240, 1024]⟩
abbrev S8x1x2048 : Shape := ⟨3, ![8, 1, 2048]⟩
abbrev S8x1x1024 : Shape := ⟨3, ![8, 1, 1024]⟩
abbrev S4096x1 : Shape := ⟨2, ![4096, 1]⟩
abbrev S4096x8 : Shape := ⟨2, ![4096, 8]⟩
abbrev S1x8 : Shape := ⟨2, ![1, 8]⟩
abbrev S256x256 : Shape := ⟨2, ![256, 256]⟩
abbrev S256x1 : Shape := ⟨2, ![256, 1]⟩
abbrev S256x8 : Shape := ⟨2, ![256, 8]⟩
abbrev S256 : Shape := ⟨1, ![256]⟩
abbrev S8 : Shape := ⟨1, ![8]⟩
abbrev S1x1 : Shape := ⟨2, ![1, 1]⟩
abbrev S1x7 : Shape := ⟨2, ![1, 7]⟩
abbrev S1x2 : Shape := ⟨2, ![1, 2]⟩
abbrev S1x6 : Shape := ⟨2, ![1, 6]⟩
abbrev S1x4 : Shape := ⟨2, ![1, 4]⟩
abbrev S8192x8 : Shape := ⟨2, ![8192, 8]⟩
abbrev S40x8 : Shape := ⟨2, ![40, 8]⟩
abbrev S256x1024 : Shape := ⟨2, ![256, 1024]⟩
abbrev S1x1024x2048 : Shape := ⟨3, ![1, 1024, 2048]⟩
abbrev S1 : Shape := ⟨1, ![1]⟩
abbrev S1x1x2048 : Shape := ⟨3, ![1, 1, 2048]⟩
abbrev S1x2048x1024 : Shape := ⟨3, ![1, 2048, 1024]⟩
abbrev S1x1x1024 : Shape := ⟨3, ![1, 1, 1024]⟩
abbrev S1024x2048 : Shape := ⟨2, ![1024, 2048]⟩
abbrev S256x2048 : Shape := ⟨2, ![256, 2048]⟩
abbrev S1x2048 : Shape := ⟨2, ![1, 2048]⟩
abbrev S2048x1024 : Shape := ⟨2, ![2048, 1024]⟩
abbrev S1x1024 : Shape := ⟨2, ![1, 1024]⟩

abbrev nBuf : Space → Nat
  | .hbm => 71
  | .vmem => 21
  | .smem => 1
  | _ => 0

abbrev bufTy : (tb : Table) → Fin (tcTables nBuf tb) → BufTy
  | .hbm, ⟨0, _⟩ => ⟨S2x2048x1024, .f32⟩
  | .hbm, ⟨1, _⟩ => ⟨S1024x8, .f32⟩
  | .hbm, ⟨2, _⟩ => ⟨S8x1024x2048, .f32⟩
  | .hbm, ⟨3, _⟩ => ⟨S8x2048, .f32⟩
  | .hbm, ⟨4, _⟩ => ⟨S8x2048x1024, .f32⟩
  | .hbm, ⟨5, _⟩ => ⟨S8x1024, .f32⟩
  | .hbm, ⟨6, _⟩ => ⟨S4096x1024, .f32⟩
  | .hbm, ⟨7, _⟩ => ⟨S8192x1, .i32⟩
  | .hbm, ⟨8, _⟩ => ⟨S8192x1, .f32⟩
  | .hbm, ⟨9, _⟩ => ⟨S40x1, .i32⟩
  | .hbm, ⟨10, _⟩ => ⟨S8192, .i32⟩
  | .hbm, ⟨11, _⟩ => ⟨S8192, .f32⟩
  | .hbm, ⟨12, _⟩ => ⟨S4096, .i32⟩
  | .hbm, ⟨13, _⟩ => ⟨S8192, .i32⟩
  | .hbm, ⟨14, _⟩ => ⟨S_, .i32⟩
  | .hbm, ⟨15, _⟩ => ⟨S10240, .i32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S8192x1, .i32⟩
  | .hbm, ⟨24, _⟩ => ⟨S10240, .i32⟩
  | .hbm, ⟨25, _⟩ => ⟨S_, .f32⟩
  | .hbm, ⟨26, _⟩ => ⟨S10240, .f32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S10240, .f32⟩
  | .hbm, ⟨36, _⟩ => ⟨S_, .i32⟩
  | .hbm, ⟨37, _⟩ => ⟨S10240, .i32⟩
  | .hbm, ⟨38, _⟩ => ⟨S10240, .i1⟩
  | .hbm, ⟨39, _⟩ => ⟨S_, .i32⟩
  | .hbm, ⟨40, _⟩ => ⟨S10240, .i32⟩
  | .hbm, ⟨41, _⟩ => ⟨S10240, .i32⟩
  | .hbm, ⟨42, _⟩ => ⟨S10240, .i32⟩
  | .hbm, ⟨43, _⟩ => ⟨S10240x1, .i32⟩
  | .hbm, ⟨44, _⟩ => ⟨S10240x1024, .f32⟩
  | .hbm, ⟨45, _⟩ => ⟨S10240x1, .f32⟩
  | .hbm, ⟨46, _⟩ => ⟨S8x1x2048, .f32⟩
  | .hbm, ⟨47, _⟩ => ⟨S8x1x1024, .f32⟩
  | .hbm, ⟨48, _⟩ => ⟨S10240x1024, .f32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S4096x1, .i32⟩
  | .hbm, ⟨58, _⟩ => ⟨S4096x1024, .f32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x1024, .f32⟩
  | .hbm, ⟨69, _⟩ => ⟨S4096x1024, .f32⟩
  | .hbm, ⟨70, _⟩ => ⟨S2x2048x1024, .f32⟩
  | .local _ .vmem, ⟨0, _⟩ => ⟨S4096x1024, .f32⟩
  | .local _ .vmem, ⟨1, _⟩ => ⟨S1024x8, .f32⟩
  | .local _ .vmem, ⟨2, _⟩ => ⟨S8192x1, .i32⟩
  | .local _ .vmem, ⟨3, _⟩ => ⟨S8192x1, .f32⟩
  | .local _ .vmem, ⟨4, _⟩ => ⟨S40x1, .i32⟩
  | .local _ .vmem, ⟨5, _⟩ => ⟨S8192x1, .f32⟩
  | .local _ .vmem, ⟨6, _⟩ => ⟨S8192x1, .f32⟩
  | .local _ .vmem, ⟨7, _⟩ => ⟨S256x1024, .f32⟩
  | .local _ .vmem, ⟨8, _⟩ => ⟨S256x1024, .f32⟩
  | .local _ .vmem, ⟨9, _⟩ => ⟨S256x1, .f32⟩
  | .local _ .vmem, ⟨10, _⟩ => ⟨S256x1, .f32⟩
  | .local _ .vmem, ⟨11, _⟩ => ⟨S1x1024x2048, .f32⟩
  | .local _ .vmem, ⟨12, _⟩ => ⟨S1x1024x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x2048x1024, .f32⟩
  | .local _ .vmem, ⟨16, _⟩ => ⟨S1x2048x1024, .f32⟩
  | .local _ .vmem, ⟨17, _⟩ => ⟨S1x1x1024, .f32⟩
  | .local _ .vmem, ⟨18, _⟩ => ⟨S1x1x1024, .f32⟩
  | .local _ .vmem, ⟨19, _⟩ => ⟨S256x1024, .f32⟩
  | .local _ .vmem, ⟨20, _⟩ => ⟨S256x1024, .f32⟩
  | .local _ .smem, ⟨0, _⟩ => ⟨S40, .i32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1_0 : Ref sig .tc := ⟨.hbm, 7, rfl⟩
abbrev main_call0_v1_1 : Ref sig .tc := ⟨.hbm, 8, rfl⟩
abbrev main_call0_v1_2 : Ref sig .tc := ⟨.hbm, 9, rfl⟩
abbrev main_call0_v2 : Ref sig .tc := ⟨.hbm, 10, rfl⟩
abbrev main_call0_v3 : Ref sig .tc := ⟨.hbm, 11, rfl⟩
abbrev main_call0_v5 : Ref sig .tc := ⟨.hbm, 12, rfl⟩
abbrev main_call0_v6 : Ref sig .tc := ⟨.hbm, 13, rfl⟩
abbrev main_call0_c : Ref sig .tc := ⟨.hbm, 14, rfl⟩
abbrev main_call0_v7 : Ref sig .tc := ⟨.hbm, 15, rfl⟩
abbrev main_call0_c_0 : Ref sig .tc := ⟨.hbm, 16, rfl⟩
abbrev main_call0_v8 : Ref sig .tc := ⟨.hbm, 17, rfl⟩
abbrev main_call0_v9 : Ref sig .tc := ⟨.hbm, 18, rfl⟩
abbrev main_call0_c_1 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_call0_c_2 : Ref sig .tc := ⟨.hbm, 27, rfl⟩
abbrev main_call0_v16 : Ref sig .tc := ⟨.hbm, 28, rfl⟩
abbrev main_call0_v17 : Ref sig .tc := ⟨.hbm, 29, rfl⟩
abbrev main_call0_c_3 : Ref sig .tc := ⟨.hbm, 30, rfl⟩
abbrev main_call0_v18 : Ref sig .tc := ⟨.hbm, 31, rfl⟩
abbrev main_call0_v19 : Ref sig .tc := ⟨.hbm, 32, rfl⟩
abbrev main_call0_v20 : Ref sig .tc := ⟨.hbm, 33, rfl⟩
abbrev main_call0_v21 : Ref sig .tc := ⟨.hbm, 34, rfl⟩
abbrev main_call0_v22 : Ref sig .tc := ⟨.hbm, 35, rfl⟩
abbrev main_call0_c_4 : Ref sig .tc := ⟨.hbm, 36, rfl⟩
abbrev main_call0_v23 : Ref sig .tc := ⟨.hbm, 37, rfl⟩
abbrev main_call0_v24 : Ref sig .tc := ⟨.hbm, 38, rfl⟩
abbrev main_call0_c_5 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_v28 : Ref sig .tc := ⟨.hbm, 43, rfl⟩
abbrev main_call0_v29 : Ref sig .tc := ⟨.hbm, 44, rfl⟩
abbrev main_call0_v30 : Ref sig .tc := ⟨.hbm, 45, rfl⟩
abbrev main_call0_v31 : Ref sig .tc := ⟨.hbm, 46, rfl⟩
abbrev main_call0_v32 : Ref sig .tc := ⟨.hbm, 47, rfl⟩
abbrev main_call0_v33 : Ref sig .tc := ⟨.hbm, 48, rfl⟩
abbrev main_call0_v34 : Ref sig .tc := ⟨.hbm, 49, rfl⟩
abbrev main_call0_c_6 : Ref sig .tc := ⟨.hbm, 50, rfl⟩
abbrev main_call0_v35 : Ref sig .tc := ⟨.hbm, 51, rfl⟩
abbrev main_call0_v36 : Ref sig .tc := ⟨.hbm, 52, rfl⟩
abbrev main_call0_c_7 : Ref sig .tc := ⟨.hbm, 53, rfl⟩
abbrev main_call0_v37 : Ref sig .tc := ⟨.hbm, 54, rfl⟩
abbrev main_call0_v38 : Ref sig .tc := ⟨.hbm, 55, rfl⟩
abbrev main_call0_v39 : Ref sig .tc := ⟨.hbm, 56, rfl⟩
abbrev main_call0_v40 : Ref sig .tc := ⟨.hbm, 57, rfl⟩
abbrev main_call0_v41 : Ref sig .tc := ⟨.hbm, 58, rfl⟩
abbrev main_call0_v42 : Ref sig .tc := ⟨.hbm, 59, rfl⟩
abbrev main_call0_c_8 : Ref sig .tc := ⟨.hbm, 60, rfl⟩
abbrev main_call0_v43 : Ref sig .tc := ⟨.hbm, 61, rfl⟩
abbrev main_call0_v44 : Ref sig .tc := ⟨.hbm, 62, rfl⟩
abbrev main_call0_c_9 : Ref sig .tc := ⟨.hbm, 63, rfl⟩
abbrev main_call0_v45 : Ref sig .tc := ⟨.hbm, 64, rfl⟩
abbrev main_call0_v46 : Ref sig .tc := ⟨.hbm, 65, rfl⟩
abbrev main_call0_v47 : Ref sig .tc := ⟨.hbm, 66, rfl⟩
abbrev main_call0_v48 : Ref sig .tc := ⟨.hbm, 67, rfl⟩
abbrev main_call0_v49 : Ref sig .tc := ⟨.hbm, 68, rfl⟩
abbrev main_call0_v50 : Ref sig .tc := ⟨.hbm, 69, rfl⟩
abbrev main_v0 : Ref sig .tc := ⟨.hbm, 70, rfl⟩
abbrev main_call0_v4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v54 : BitVec 32 := Scalar.addi c0_i32 c32_i32
  let c1_i32 : BitVec 32 := 1#32
  ⟨c0_i32, v54, c1_i32⟩
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32_36 : BitVec 32 := 256#32
  let v103 : BitVec 32 := Scalar.muli arg7 c256_i32_36
  let v104 : Index := Scalar.indexCast v103
  let c0_37 : Index := 0#32
  ![v104.toNat, 0]
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![40], ![false]⟩

abbrev pre1 : Pipeline.Prefetch sig := ⟨1, ![main_call0_v4.idx], fun | 0 => main_call0_v4.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_5 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2048x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S2x2048x1024 : Shape := ⟨3, ![2, 2048, 1024]⟩
abbrev S1024x8 : Shape := ⟨2, ![1024, 8]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S4096x1024 : Shape := ⟨2, ![4096, 1024]⟩
abbrev S4096x8 : Shape := ⟨2, ![4096, 8]⟩
abbrev S4096x2 : Shape := ⟨2, ![4096, 2]⟩
abbrev S_ : Shape := ⟨0, ![]⟩
abbrev S4096 : Shape := ⟨1, ![4096]⟩
abbrev S4096x1 : Shape := ⟨2, ![4096, 1]⟩
abbrev S4096x2x1 : Shape := ⟨3, ![4096, 2, 1]⟩
abbrev S4096x2x2 : Shape := ⟨3, ![4096, 2, 2]⟩
abbrev S8x2048x4096 : Shape := ⟨3, ![8, 2048, 4096]⟩
abbrev S8x4096x2048 : Shape := ⟨3, ![8, 4096, 2048]⟩
abbrev S8x1x2048 : Shape := ⟨3, ![8, 1, 2048]⟩
abbrev S8x4096x1024 : Shape := ⟨3, ![8, 4096, 1024]⟩
abbrev S8x1x1024 : Shape := ⟨3, ![8, 1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x8, .f32⟩
  | .hbm, ⟨2, _⟩ => ⟨S8x1024x2048, .f32⟩
  | .hbm, ⟨3, _⟩ => ⟨S8x2048, .f32⟩
  | .hbm, ⟨4, _⟩ => ⟨S8x2048x1024, .f32⟩
  | .hbm, ⟨5, _⟩ => ⟨S8x1024, .f32⟩
  | .hbm, ⟨6, _⟩ => ⟨S4096x1024, .f32⟩
  | .hbm, ⟨7, _⟩ => ⟨S4096x8, .f32⟩
  | .hbm, ⟨8, _⟩ => ⟨S4096x2, .f32⟩
  | .hbm, ⟨9, _⟩ => ⟨S4096x2, .i32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096x1, .f32⟩
  | .hbm, ⟨16, _⟩ => ⟨S4096x2, .f32⟩
  | .hbm, ⟨17, _⟩ => ⟨S4096x2, .f32⟩
  | .hbm, ⟨18, _⟩ => ⟨S4096x2, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S4096x2, .f32⟩
  | .hbm, ⟨23, _⟩ => ⟨S4096x2, .f32⟩
  | .hbm, ⟨24, _⟩ => ⟨S_, .f32⟩
  | .hbm, ⟨25, _⟩ => ⟨S4096x8, .f32⟩
  | .hbm, ⟨26, _⟩ => ⟨S4096, .i32⟩
  | .hbm, ⟨27, _⟩ => ⟨S4096x1, .i32⟩
  | .hbm, ⟨28, _⟩ => ⟨S_, .i32⟩
  | .hbm, ⟨29, _⟩ => ⟨S4096x1, .i32⟩
  | .hbm, ⟨30, _⟩ => ⟨S4096x1, .i1⟩
  | .hbm, ⟨31, _⟩ => ⟨S_, .i32⟩
  | .hbm, ⟨32, _⟩ => ⟨S4096x1, .i32⟩
  | .hbm, ⟨33, _⟩ => ⟨S4096x1, .i32⟩
  | .hbm, ⟨34, _⟩ => ⟨S4096x1, .i32⟩
  | .hbm, ⟨35, _⟩ => ⟨S_, .i32⟩
  | .hbm, ⟨36, _⟩ => ⟨S4096x2, .i32⟩
  | .hbm, ⟨37, _⟩ => ⟨S4096x2, .i1⟩
  | .hbm, ⟨38, _⟩ => ⟨S_, .i32⟩
  | .hbm, ⟨39, _⟩ => ⟨S4096x2, .i32⟩
  | .hbm, ⟨40, _⟩ => ⟨S4096x2, .i32⟩
  | .hbm, ⟨41, _⟩ => ⟨S4096x2, .i32⟩
  | .hbm, ⟨42, _⟩ => ⟨S4096x2, .i32⟩
  | .hbm, ⟨43, _⟩ => ⟨S4096x2x1, .i32⟩
  | .hbm, ⟨44, _⟩ => ⟨S4096x2x1, .i32⟩
  | .hbm, ⟨45, _⟩ => ⟨S4096x2x2, .i32⟩
  | .hbm, ⟨46, _⟩ => ⟨S4096x8, .f32⟩
  | .hbm, ⟨47, _⟩ => ⟨S8x2048x4096, .f32⟩
  | .hbm, ⟨48, _⟩ => ⟨S8x4096x2048, .f32⟩
  | .hbm, ⟨49, _⟩ => ⟨S8x1x2048, .f32⟩
  | .hbm, ⟨50, _⟩ => ⟨S8x4096x2048, .f32⟩
  | .hbm, ⟨51, _⟩ => ⟨S8x4096x2048, .f32⟩
  | .hbm, ⟨52, _⟩ => ⟨S_, .f32⟩
  | .hbm, ⟨53, _⟩ => ⟨S8x4096x2048, .f32⟩
  | .hbm, ⟨54, _⟩ => ⟨S8x4096x2048, .f32⟩
  | .hbm, ⟨55, _⟩ => ⟨S8x4096x1024, .f32⟩
  | .hbm, ⟨56, _⟩ => ⟨S8x1x1024, .f32⟩
  | .hbm, ⟨57, _⟩ => ⟨S8x4096x1024, .f32⟩
  | .hbm, ⟨58, _⟩ => ⟨S8x4096x1024, .f32⟩
  | .hbm, ⟨59, _⟩ => ⟨S4096x1024, .f32⟩
  | .hbm, ⟨60, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_cst : Ref sig .tc := ⟨.hbm, 52, rfl⟩
abbrev main_call0_v0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Proof.RoutingValue.lean ====
/-
  What the routing kernel computes, as plain functions of the tokens `x` and of the router's weights `wr`. Generic in the
  float instance.

  `expertV` is the list of the chosen experts (the first choices of all tokens, then the second choices), `gateV` their
  weights. The ranks are counted block by block: `carryV k` is, per expert, how many of the first `256 * k` choices name
  it, and `rankV` is a choice's rank among the earlier choices of its own expert. `posV` and `emapV` are the two integer
  results: a choice's place in the sorted order, and the expert of each block of 256 places.
-/
module

public import proofs.«01_k».proof.Proof.Gen.KernelIdeal.Skeleton
public import Idealize.ShloMosaic.Lib.ValueIdxCore

@[expose] public section

noncomputable section

namespace Cert.KernelIdeal.Routing

open Cert.KernelIdeal Cert.KernelIdeal.Gen
open Idealize.ShloMosaic Idealize.ShloMosaic.ValueIdx

variable {F : FTy → Type} [FloatOps F]

/-- Two columns of 4096 one below the other. -/
def stack {α : Type} (a b : S4096x1.Idx → α) : S8192x1.Idx → α := fun y =>
  if h : (y 0).val < 4096 then a (ix2 ⟨(y 0).val, h⟩ 0)
  else b (ix2 ⟨(y 0).val - 4096, by have : (y 0).val < 8192 := (y 0).isLt; omega⟩ 0)

/-- The chosen experts as floats: all first choices, then all second choices. -/
def expertV (x : Vec F S4096x1024 .f32) (wr : Vec F S1024x8 .f32) : Vec F S8192x1 .f32 :=
  stack (k0_pay13 x wr) (k0_pay14 (k0_pay9 x wr))

/-- The weights of the choices, in the order of `expertV`. -/
def gateV (x : Vec F S4096x1024 .f32) (wr : Vec F S1024x8 .f32) : Vec F S8192x1 .f32 :=
  stack (k0_pay11 x wr) (k0_pay12 x wr)

/-- Block `k` of 256 rows of a column. -/
def rowsV (e : Vec F S8192x1 .f32) (k : ℕ) : Vec F S256x1 .f32 := fun j =>
  e (ix2 ⟨(256 * k + (j 0).val) % 8192, Nat.mod_lt _ (by norm_num)⟩ 0)

/-- Per expert, how many of the choices of the first `k` blocks name it. -/
def carryV (e : Vec F S8192x1 .f32) : ℕ → FVec F S1x8 .f32
  | 0 => k0_pay15
  | k + 1 => k0_pay18 k0_pay4 (carryV e k) (rowsV e k)

/-- The rank of each choice among the earlier choices of its expert. -/
def rankV (e : Vec F S8192x1 .f32) : Vec F S8192x1 .f32 := fun y =>
  k0_pay17 k0_pay4 (carryV e ((y 0).val / 256)) (rowsV e ((y 0).val / 256)) (ix2 ⟨(y 0).val % 256, Nat.mod_lt _ (by norm_num)⟩ 0)

/-- How many choices name each expert. -/
def countV (e : Vec F S8192x1 .f32) : FVec F S1x8 .f32 := carryV e 32

/-- The place of each choice in the order sorted by expert. -/
def posV (x : Vec F S4096x1024 .f32) (wr : Vec F S1024x8 .f32) : IVec S8192x1 32 :=
  k0_pay1 (k0_pay21 (countV (expertV x wr))) (k0_pay22 (expertV x wr)) (k0_pay23 (F := F) k0_pay4) (rankV (expertV x wr))

/-- The expert of each block of 256 places. -/
def emapV (x : Vec F S4096x1024 .f32) (wr : Vec F S1024x8 .f32) : IVec S40x1 32 :=
  k0_pay2 (k0_pay20 (countV (expertV x wr)))

end Cert.KernelIdeal.Routing

end
-- ==== Proof.RoutingLoop.lean ====
/-
  The counting loop of the routing kernel: after its first `k` trips the carried value is `carryV e k` and the rows below
  `256 * k` of the rank scratch hold `rankV e`, where `e` is the column the loop reads.
-/
module

public import proofs.«01_k».proof.Proof.Gen.KernelIdeal.Loops
public import proofs.«01_k».proof.Proof.RoutingValue
public import Idealize.ShloMosaic.Lib.WritesUnit
public import Idealize.ShloMosaic.Lib.VecWindow

@[expose] public section

noncomputable section

namespace Cert.KernelIdeal.Routing

open Cert.KernelIdeal Cert.KernelIdeal.Gen
open Idealize.ShloMosaic Idealize.ShloMosaic.TcCoe Idealize.ShloMosaic.ValueIdx Idealize.ShloMosaic.Tactic

variable {F : FTy → Type} [FloatOps F]

variable (𝒱 : Variants) (c : Dev nD) (bd : Option 𝒱.V)
  (a0 : Memref sig .tc .vmem S4096x1024 .f32) (h0 : a0.IsWhole) (a1 : Memref sig .tc .vmem S1024x8 .f32) (h1 : a1.IsWhole)
  (a2 : Memref sig .tc .vmem S8192x1 .i32) (h2 : a2.IsWhole) (a3 : Memref sig .tc .vmem S8192x1 .f32) (h3 : a3.IsWhole)
  (a4 : Memref sig .tc .vmem S40x1 .i32) (h4 : a4.IsWhole) (a5 : Memref sig .tc .vmem S8192x1 .f32) (h5 : a5.IsWhole)
  (a6 : Memref sig .tc .vmem S8192x1 .f32) (h6 : a6.IsWhole)
  (v5 : FVec F S1x8 .f32) (v30 v36 v39 v42 : FVec F S4096x1 .f32) (X : BufTy.Contents (Elt F) a5.view.ty)

/-- What one trip yields: the carried counts with the block's counts added. -/
theorem tripR_eq (k : Fin k0_t1_loop.trips) (acc : FVec F S1x8 .f32) :
    tripR_k0_t1 (F := F) 𝒱 c bd a0 h0 a1 h1 a2 h2 a3 h3 a4 h4 a5 h5 a6 h6 v5 v30 v36 v39 v42 X k acc
      = k0_pay18 v5 acc (a5.view.readAt (Elt F) (Rect.unit (s := S8192x1) (k0_off1 k) S256x1.size (k0_off1_inb k)).toLoadRect X) := by
  unfold tripR_k0_t1 trip_k0_t1
  rfl

/-- What one trip stores: its block of ranks, at its rows. -/
theorem tripL_eq (k : Fin k0_t1_loop.trips) (acc : FVec F S1x8 .f32) :
    tripL_k0_t1 (F := F) 𝒱 c bd a0 h0 a1 h1 a2 h2 a3 h3 a4 h4 a5 h5 a6 h6 v5 v30 v36 v39 v42 X k acc
      = [⟨Rect.unit (s := S8192x1) (k0_off1 k) S256x1.size (k0_off1_inb k),
          k0_pay17 v5 acc (a5.view.readAt (Elt F) (Rect.unit (s := S8192x1) (k0_off1 k) S256x1.size (k0_off1_inb k)).toLoadRect X)⟩] := by
  unfold tripL_k0_t1 trip_k0_t1
  rfl

/-- The block a trip loads is that block of the column. -/
theorem readAt_rows (k : Fin k0_t1_loop.trips) :
    a5.view.readAt (Elt F) (Rect.unit (s := S8192x1) (k0_off1 k) S256x1.size (k0_off1_inb k)).toLoadRect X
      = rowsV (a5.view.read (Elt F) X) k.val := by
  funext j
  have hk : k.val < 32 := Nat.lt_of_lt_of_le k.isLt k0_t1_abs.2.1
  have hj0 : (j 0).val < 256 := (j 0).isLt
  have hj1 : (j 1).val < 1 := (j 1).isLt
  have ho := k0_off1_eq k
  rw [View.readAt_apply]
  refine congrArg (a5.view.read (Elt F) X) (funext fun a => Fin.ext ?_)
  match a with
  | ⟨0, _⟩ =>
    show k0_off1 k 0 + 1 * (j 0).val = (256 * k.val + (j 0).val) % 8192
    have := congrFun ho 0
    have e : (![256 * k.val, 0] : Fin 2 → ℕ) 0 = 256 * k.val := rfl
    omega
  | ⟨1, _⟩ =>
    show k0_off1 k 1 + 1 * (j 1).val = 0
    have := congrFun ho 1
    have e : (![256 * k.val, 0] : Fin 2 → ℕ) 1 = 0 := rfl
    omega

/-- The loop's state before trip `k`: the carried counts, and the ranks of the rows below `256 * k`. -/
theorem st_eq (e : Vec F S8192x1 .f32) (he : a5.view.read (Elt F) X = e) (f : BufTy.Contents (Elt F) a6.view.ty) :
    ∀ k : ℕ, k ≤ k0_t1_loop.trips →
      (st_k0_t1 (F := F) 𝒱 c bd a0 h0 a1 h1 a2 h2 a3 h3 a4 h4 a5 h5 a6 h6 k0_pay4 v30 v36 v39 v42 X k0_pay15 k).1 = carryV e k
      ∧ ∀ y : S8192x1.Idx, (y 0).val < 256 * k →
        a6.view.read (Elt F) (a6.view.writes (Elt F) f
          (st_k0_t1 (F := F) 𝒱 c bd a0 h0 a1 h1 a2 h2 a3 h3 a4 h4 a5 h5 a6 h6 k0_pay4 v30 v36 v39 v42 X k0_pay15 k).2) y
          = rankV e y
  | 0, _ => ⟨rfl, fun y hy => absurd hy (by omega)⟩
  | k + 1, hk => by
    obtain ⟨ih1, ih2⟩ := st_eq e he f k (by omega)
    have hs := st_k0_t1_succ (F := F) 𝒱 c bd a0 h0 a1 h1 a2 h2 a3 h3 a4 h4 a5 h5 a6 h6 k0_pay4 v30 v36 v39 v42 X k0_pay15 ⟨k, hk⟩
    have hs' := hs
    rw [tripR_eq, tripL_eq, ih1, readAt_rows, he] at hs'
    refine ⟨by rw [hs']; rfl, fun y hy => ?_⟩
    rw [hs']
    have hy1 : (y 1).val < 1 := (y 1).isLt
    by_cases h : (y 0).val < 256 * k
    · refine Eq.trans ?_ (ih2 y h)
      exact View.read_writes_cons_unit_of_not_mem a6.view f _ _ _ y (k0_off1_eq ⟨k, hk⟩) 0 (Or.inl h)
    · have e1 : (y 0).val / 256 = k := by omega
      have e2 : (y 0).val % 256 = (y 0).val - 256 * k := by omega
      refine Eq.trans (View.read_writes_cons_unit_of_mem a6.view f _ _ _ y
        (ix2 ⟨(y 0).val % 256, Nat.mod_lt _ (by norm_num)⟩ 0) (k0_off1_eq ⟨k, hk⟩) ?_) ?_
      · intro a
        match a with
        | ⟨0, _⟩ => show (y 0).val = 256 * k + (y 0).val % 256; omega
        | ⟨1, _⟩ => show (y 1).val = 0 + 0; omega
      · unfold rankV
        rw [e1]

/-- The upper half of a column stored, then the lower half: the column reads as the two stacked. -/
theorem read_halves {sp : Space} (v : View sig .tc sp S8192x1 .f32) (f : v.ty.Contents (Elt F)) (a b : FVec F S4096x1 .f32) :
    v.read (Elt F) (v.writes (Elt F) f
      [⟨Rect.unit ![4096, 0] S4096x1.size inb_S8192x1_S4096x1_4096_0, b⟩, ⟨Rect.unit ![0, 0] S4096x1.size inb_S8192x1_S4096x1_0_0, a⟩])
      = stack a b := by
  funext y
  have hy0 : (y 0).val < 8192 := (y 0).isLt
  have hy1 : (y 1).val < 1 := (y 1).isLt
  unfold stack
  by_cases h : (y 0).val < 4096
  · rw [dif_pos h]
    refine (View.read_writes_cons_unit_of_not_mem v f _ _ _ y rfl 0 (Or.inl h)).trans ?_
    refine View.read_writes_cons_unit_of_mem v f _ _ _ y _ rfl fun d => ?_
    match d with
    | ⟨0, _⟩ => show (y 0).val = 0 + (y 0).val; omega
    | ⟨1, _⟩ => show (y 1).val = 0 + 0; omega
  · rw [dif_neg h]
    refine View.read_writes_cons_unit_of_mem v f _ _ _ y _ rfl fun d => ?_
    match d with
    | ⟨0, _⟩ => show (y 0).val = 4096 + ((y 0).val - 4096); omega
    | ⟨1, _⟩ => show (y 1).val = 0 + 0; omega

/-- The loop runs 32 trips. -/
theorem trips_eq : k0_t1_loop.trips = 32 := by decide +kernel

/-- After the loop the carried value is the count of every expert. -/
theorem st_count (e : Vec F S8192x1 .f32) (he : a5.view.read (Elt F) X = e) :
    (st_k0_t1 (F := F) 𝒱 c bd a0 h0 a1 h1 a2 h2 a3 h3 a4 h4 a5 h5 a6 h6 k0_pay4 v30 v36 v39 v42 X k0_pay15 k0_t1_loop.trips).1
      = countV e := by
  rw [(st_eq 𝒱 c bd a0 h0 a1 h1 a2 h2 a3 h3 a4 h4 a5 h5 a6 h6 v30 v36 v39 v42 X e he (a6.view.junk) _ le_rfl).1, trips_eq]
  rfl

/-- After the loop the rank scratch holds every rank. -/
theorem st_rank (e : Vec F S8192x1 .f32) (he : a5.view.read (Elt F) X = e) (f : BufTy.Contents (Elt F) a6.view.ty) :
    a6.view.read (Elt F) (a6.view.writes (Elt F) f
      (st_k0_t1 (F := F) 𝒱 c bd a0 h0 a1 h1 a2 h2 a3 h3 a4 h4 a5 h5 a6 h6 k0_pay4 v30 v36 v39 v42 X k0_pay15 k0_t1_loop.trips).2)
      = rankV e :=
  funext fun y => (st_eq 𝒱 c bd a0 h0 a1 h1 a2 h2 a3 h3 a4 h4 a5 h5 a6 h6 v30 v36 v39 v42 X e he f _ le_rfl).2 y (by
    have : (y 0).val < 8192 := (y 0).isLt
    rw [trips_eq]; omega)

end Cert.KernelIdeal.Routing

end
-- ==== Proof.RoutingBody.lean ====
/-
  The routing kernel's body, run once: from any contents of its two scratch columns and of its three results it leaves the
  inputs as they were and the results at `posV`, `gateV` and `emapV` of the inputs.
-/
module

public import proofs.«01_k».proof.Proof.Gen.KernelIdeal.Launch
public import proofs.«01_k».proof.Proof.RoutingLoop
public import Idealize.ShloMosaic.Lib.Tactic

@[expose] public section

noncomputable section

namespace Cert.KernelIdeal.Routing

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of a memref's buffer on core `c`. -/
abbrev Bf (c : Dev nD) {sp : Space} {S : Shape} {e : EltTy} (M : Memref sig .tc sp S e) : Type := Buf (Elt F) (M.view.loc (c : Thread nD τ))

/-- A memref's elements held in full at contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- The scratch column of chosen experts. -/
abbrev scrE := Memref.whole (sig := sig) cc0_scratch0

/-- The scratch column of ranks. -/
abbrev scrR := Memref.whole (sig := sig) cc0_scratch1

/-- The body's run. -/
theorem run (c : Dev nD)
    (f0 : Bf (F := F) c (win0_0.stage 0)) (f1 : Bf (F := F) c (win0_1.stage 0)) (f2 : Bf (F := F) c (win0_2.stage 0))
    (f3 : Bf (F := F) c (win0_3.stage 0)) (f4 : Bf (F := F) c (win0_4.stage 0)) (f5 : Bf (F := F) c scrE) (f6 : Bf (F := F) c scrR)
    (x : Vec F S4096x1024 .f32) (wr : Vec F S1024x8 .f32)
    (hx : (win0_0.stage 0).view.read (Elt F) f0 = x) (hw : (win0_1.stage 0).view.read (Elt F) f1 = wr)
    (E : Set ℕ) (Q : PUnit → sProp 𝕄) :
    iprop(pt c (win0_0.stage 0) f0 ∗ pt c (win0_1.stage 0) f1 ∗ pt c (win0_2.stage 0) f2 ∗ pt c (win0_3.stage 0) f3 ∗ pt c (win0_4.stage 0) f4 ∗ pt c scrE f5 ∗ pt c scrR f6
      ∗ (∀ g2 g3 g4 g5 g6, iprop(pt c (win0_0.stage 0) f0 ∗ pt c (win0_1.stage 0) f1 ∗ pt c (win0_2.stage 0) g2 ∗ pt c (win0_3.stage 0) g3 ∗ pt c (win0_4.stage 0) g4 ∗ pt c scrE g5 ∗ pt c scrR g6
          ∗ ⌜(win0_2.stage 0).view.read (Elt F) g2 = posV x wr ∧ (win0_3.stage 0).view.read (Elt F) g3 = gateV x wr ∧ (win0_4.stage 0).view.read (Elt F) g4 = emapV x wr⌝) -∗ Q ⟨⟩))
      ⊢ wp frame (wpE (defs₀ (F := F)) Variants.none c none) E
          (cc0__routing_body (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _) (Memref.whole cc0_scratch1) (Memref.isWhole_whole _)) Q := by
  rewrite [cc0__routing_body_eq_skeleton]
  iintro ⟨H0, H1, H2, H3, H4, H5, H6, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  ipureintro
  have ex : run.sl.v0 c f0 = x := (View.readAt_full _ _ _).trans hx
  have ew : run.sl.v2 c f1 = wr := (View.readAt_full _ _ _).trans hw
  have eE : scrE.view.read (Elt F) (scrE.view.writes (Elt F) scrE.view.junk (run.sl.H5_2 c f0 f1)) = expertV x wr := by
    unfold run.sl.H5_2 run.sl.r run.sl.r_3
    rw [ex, ew]
    exact read_halves scrE.view _ _ _
  have eEv : run.sl.v77 c f0 f1 = expertV x wr := by
    unfold run.sl.v77
    unfold View.readCov
    rw [View.readAt_full]
    exact eE
  refine ⟨?_, ?_, ?_⟩
  · refine (View.read_writes_full _ _ _ _ _).trans ?_
    have eR : run.sl.v87 c f0 f1 f6 = rankV (expertV x wr) :=
by
      unfold run.sl.v87
      rw [View.readAt_full]
      exact (st_rank _ _ _ _ _ _ _ _ _ _ _ _ _ _ _ _ _ _ _ _ _ _ _ eE _)
    unfold run.sl.r_5 run.sl.r_6 run.sl.r_7
    rw [eR, eEv]
    unfold posV
    exact congrArg (fun z => k0_pay1 (k0_pay21 z) _ _ _) (st_count _ _ _ _ _ _ _ _ _ _ _ _ _ _ _ _ _ _ _ _ _ _ _ eE)
  · unfold run.sl.H3_2 run.sl.r_1 run.sl.r_2
    rw [ex, ew]
    exact read_halves (win0_3.stage 0).view _ _ _
  · refine (View.read_writes_full _ _ _ _ _).trans ?_
    unfold run.sl.r_4 emapV
    exact congrArg (fun z => k0_pay2 (k0_pay20 z)) (st_count _ _ _ _ _ _ _ _ _ _ _ _ _ _ _ _ _ _ _ _ _ _ _ eE)

end Cert.KernelIdeal.Routing

end
-- ==== Proof.RoutingRegion.lean ====
/-
  The routing kernel as a pipeline of one point: what its arrays and staging buffers hold, and the obligation its body meets.
-/
module

public import proofs.«01_k».proof.Proof.Gen.KernelIdeal.Regions
public import proofs.«01_k».proof.Proof.Gen.KernelIdeal.Points
public import proofs.«01_k».proof.Proof.RoutingBody
public import Idealize.ShloMosaic.Lib.Pipeline.RegionArraysTS

@[expose] public section

noncomputable section

namespace Cert.KernelIdeal.Routing

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F]

local notation "𝕄" => MT nD τ sig Unit (Elt F) ℕ (UR sig nD τ) ℕ

-- the contents of every buffer when the kernel starts
variable (V : Dev nD → Valuation τ sig (Elt F))

/-- The tokens' hidden states as the kernel fetches them. -/
abbrev xIn (c : Dev nD) : Vec F S4096x1024 .f32 :=
  (win0_0.blk t0_0).view.read (Elt F) (V c (Proc.devRef .tc (Pipeline.arrRef spec0 0)))

/-- The router's weights as the kernel fetches them. -/
abbrev wIn (c : Dev nD) : Vec F S1024x8 .f32 :=
  (win0_1.blk t0_0).view.read (Elt F) (V c (Proc.devRef .tc (Pipeline.arrRef spec0 1)))

/-- The scoped buffers that the call does not stage, at some contents. -/
abbrev rest0 (c : Dev nD) : sProp 𝕄 := Pipeline.scopedRest (Ix := Unit) (Name := ℕ) (U := UR sig nD τ) (Lvl := ℕ) (Val := Elt F) spec0 c

/-- The call's proof data: the inputs stay, the results are `posV`, `gateV` and `emapV` of the inputs. -/
def dat (c : Dev nD) : Dat τ (Elt F) Unit ℕ (UR sig nD τ) ℕ cfg0 c where
  A w := V c (Proc.devRef .tc (Pipeline.arrRef spec0 w))
  after w _ := match w with
    | ⟨0, _⟩ => xIn V c
    | ⟨1, _⟩ => wIn V c
    | ⟨2, _⟩ => posV (xIn V c) (wIn V c)
    | ⟨3, _⟩ => gateV (xIn V c) (wIn V c)
    | ⟨4, _⟩ => emapV (xIn V c) (wIn V c)
  Φ _ := rest0 c
  q _ := fullShare
  owed _ := 0

theorem before0 (c : Dev nD) (d) : (dat V c).before 0 t0_0 d = xIn V c := by
  unfold Dat.before; rw [if_pos (fetch0_0 _)]; rfl

theorem before1 (c : Dev nD) (d) : (dat V c).before 1 t0_0 d = wIn V c := by
  unfold Dat.before; rw [if_pos (fetch0_1 _)]; rfl

/-- A memref's buffer held whole. -/
abbrev ptW (c : Dev nD) {sp : Space} {S : Shape} {e : EltTy} (M : Memref sig .tc sp S e) (f : Bf (F := F) c M) : sProp 𝕄 :=
  M.view.loc (c : Thread nD τ) ↦{fullShare} f

/-- A whole memref's elements held in full are its buffer held whole. -/
theorem pt_whole (c : Dev nD) {sp : Space} {S : Shape} {e : EltTy} (M : Memref sig .tc sp S e) (h : M.IsWhole) (f : Bf (F := F) c M) :
    pt c M f = ptW c M f := by
  rw [pt, h.set_eq_univ]

/-- The body's run over buffers held whole. -/
theorem run' (c : Dev nD)
    (f0 : Bf (F := F) c (win0_0.stage 0)) (f1 : Bf (F := F) c (win0_1.stage 0)) (f2 : Bf (F := F) c (win0_2.stage 0))
    (f3 : Bf (F := F) c (win0_3.stage 0)) (f4 : Bf (F := F) c (win0_4.stage 0)) (f5 : Bf (F := F) c scrE) (f6 : Bf (F := F) c scrR)
    (x : Vec F S4096x1024 .f32) (wr : Vec F S1024x8 .f32)
    (hx : (win0_0.stage 0).view.read (Elt F) f0 = x) (hw : (win0_1.stage 0).view.read (Elt F) f1 = wr)
    (E : Set ℕ) (Q : PUnit → sProp 𝕄) :
    iprop(ptW c (win0_0.stage 0) f0 ∗ ptW c (win0_1.stage 0) f1 ∗ ptW c (win0_2.stage 0) f2 ∗ ptW c (win0_3.stage 0) f3 ∗ ptW c (win0_4.stage 0) f4 ∗ ptW c scrE f5 ∗ ptW c scrR f6
      ∗ (∀ g2 g3 g4 g5 g6, iprop(ptW c (win0_0.stage 0) f0 ∗ ptW c (win0_1.stage 0) f1 ∗ ptW c (win0_2.stage 0) g2 ∗ ptW c (win0_3.stage 0) g3 ∗ ptW c (win0_4.stage 0) g4 ∗ ptW c scrE g5 ∗ ptW c scrR g6
          ∗ ⌜(win0_2.stage 0).view.read (Elt F) g2 = posV x wr ∧ (win0_3.stage 0).view.read (Elt F) g3 = gateV x wr ∧ (win0_4.stage 0).view.read (Elt F) g4 = emapV x wr⌝) -∗ Q ⟨⟩))
      ⊢ wp frame (wpE (defs₀ (F := F)) Variants.none c none) E
          (cc0__routing_body (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _) (Memref.whole cc0_scratch1) (Memref.isWhole_whole _)) Q := by
  iintro ⟨H0, H1, H2, H3, H4, H5, H6, Hk⟩
  iapply (run c f0 f1 f2 f3 f4 f5 f6 x wr hx hw E Q)
  isplitl [H0]; · rw [pt_whole c (win0_0.stage 0) (hstage0_0 0)]; iexact H0
  isplitl [H1]; · rw [pt_whole c (win0_1.stage 0) (hstage0_1 0)]; iexact H1
  isplitl [H2]; · rw [pt_whole c (win0_2.stage 0) (hstage0_2 0)]; iexact H2
  isplitl [H3]; · rw [pt_whole c (win0_3.stage 0) (hstage0_3 0)]; iexact H3
  isplitl [H4]; · rw [pt_whole c (win0_4.stage 0) (hstage0_4 0)]; iexact H4
  isplitl [H5]; · rw [pt_whole c scrE (Memref.isWhole_whole _)]; iexact H5
  isplitl [H6]; · rw [pt_whole c scrR (Memref.isWhole_whole _)]; iexact H6
  iintro %g2 %g3 %g4 %g5 %g6
  iintro ⟨H0, H1, H2, H3, H4, H5, H6, %hg⟩
  iapply Hk
  isplitl [H0]; · rw [← pt_whole c (win0_0.stage 0) (hstage0_0 0)]; iexact H0
  isplitl [H1]; · rw [← pt_whole c (win0_1.stage 0) (hstage0_1 0)]; iexact H1
  isplitl [H2]; · rw [← pt_whole c (win0_2.stage 0) (hstage0_2 0)]; iexact H2
  isplitl [H3]; · rw [← pt_whole c (win0_3.stage 0) (hstage0_3 0)]; iexact H3
  isplitl [H4]; · rw [← pt_whole c (win0_4.stage 0) (hstage0_4 0)]; iexact H4
  isplitl [H5]; · rw [← pt_whole c scrE (Memref.isWhole_whole _)]; iexact H5
  isplitl [H6]; · rw [← pt_whole c scrR (Memref.isWhole_whole _)]; iexact H6
  ipureintro; exact hg

/-- The two scratch columns are among the buffers that the call does not stage. -/
theorem rest0_split (c : Dev nD) : ∃ R : sProp 𝕄,
    rest0 (F := F) c = iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f) ∗ R) :=
  ⟨_, scopedRest0_eq c⟩

/-- The body's obligation at the one point. -/
theorem body_obligation (c : Dev nD) : BodyObligation (dat V c) (defs₀ (F := F)) Variants.none () Set.univ := fun t => by
  obtain rfl := fin_N0 t
  rw [bigSep_W0, bigSep_W0]
  simp only [owns_whole_eq]
  obtain ⟨R, hR⟩ := rest0_split (F := F) c
  rw [show (dat V c).Φ t0_0.castSucc = _ from hR, show (dat V c).Φ t0_0.succ = _ from hR,
    show (dat V c).owesAt () t0_0.succ = (dat V c).owesAt () t0_0.castSucc from rfl]
  iintro ⟨⟨⟨%f5, H5⟩, ⟨%f6, H6⟩, HΦ⟩, Howes, ⟨%d0, %f0, %h0, H0⟩, ⟨%d1, %f1, %h1, H1⟩, ⟨%d2, %f2, -, H2⟩, ⟨%d3, %f3, -, H3⟩, ⟨%d4, %f4, -, H4⟩⟩
  rw [before0] at h0
  rw [before1] at h1
  iapply (run' c f0 f1 f2 f3 f4 f5 f6 (xIn V c) (wIn V c) h0 h1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro %g2 %g3 %g4 %g5 %g6
  iintro ⟨H0, H1, H2, H3, H4, H5, H6, %hg⟩
  obtain ⟨hg2, hg3, hg4⟩ := hg
  isplitl [H5 H6 HΦ]
  · isplitl [H5]; · iexists _; iexact H5
    isplitl [H6]; · iexists _; iexact H6
    iexact HΦ
  isplitl [Howes]; · iexact Howes
  isplitl [H0]; · iexists _; isplitr; swap; (· iexact H0); ipureintro; exact h0
  isplitl [H1]; · iexists _; isplitr; swap; (· iexact H1); ipureintro; exact h1
  isplitl [H2]; · iexists _; isplitr; swap; (· iexact H2); ipureintro; exact hg2
  isplitl [H3]; · iexists _; isplitr; swap; (· iexact H3); ipureintro; exact hg3
  iexists _; isplitr; swap; (· iexact H4); ipureintro; exact hg4

end Cert.KernelIdeal.Routing

end
-- ==== Proof.RoutingTable.lean ====
/-
  The expert of each block of 256 places: how many experts end at or before the block, at most 7. So it names an expert, whatever the
  router's logits are.
-/
module

public import proofs.«01_k».proof.Proof.RoutingValue
public import Idealize.ShloMosaic.Lib.PointwiseCore
public import Idealize.ShloMosaic.Lib.Pointwise.Reduce
public import Idealize.ShloMosaic.Lib.IndicatorCount

@[expose] public section

noncomputable section

namespace Cert.KernelIdeal.Routing

open Cert.KernelIdeal Cert.KernelIdeal.Gen
open Idealize.ShloMosaic

/-- The entry of block `r` is the number of experts whose last place is at or before `256 r`, or 7 if there are more. -/
theorem pay2_apply (v : IVec S1x8 32) (r : Fin 40) :
    (k0_pay2 v (ix2 r 0)).toNat = min (Finset.univ.filter fun e : Fin 8 => (v (ix2 0 e)).toInt ≤ 256 * (r : ℤ)).card 7 := by
  have hr : (BitVec.ofNat 32 (r : ℕ) * 256#32).toInt = 256 * (r : ℤ) := by
    have := r.isLt
    have e : (BitVec.ofNat 32 (r : ℕ) * 256#32) = BitVec.ofNat 32 ((r : ℕ) * 256) := by
      apply BitVec.eq_of_toNat_eq; simp
    rw [e, BitVec.toInt_eq_toNat_of_lt (by rw [BitVec.toNat_ofNat, Nat.mod_eq_of_lt (by omega)]; omega), BitVec.toNat_ofNat,
      Nat.mod_eq_of_lt (by omega)]
    push_cast; ring
  have hc : ∀ e : Fin 8, IntOp.cmpi CmpIPredicate.sge (IntOp.muli (BitVec.ofNat 32 (r : ℕ)) 256#32) (v (ix2 0 e)) = 1#1
      ↔ (v (ix2 0 e)).toInt ≤ 256 * (r : ℤ) := by
    intro e
    unfold IntOp.cmpi IntOp.muli
    simp only [BitVec.sle, hr]
    by_cases h : (v (ix2 0 e)).toInt ≤ 256 * (r : ℤ) <;> simp [h]
  have hcard := Finset.card_le_univ (Finset.univ.filter fun e : Fin 8 => (v (ix2 0 e)).toInt ≤ 256 * (r : ℤ))
  rw [Fintype.card_fin] at hcard
  unfold k0_pay2
  pointwise
  rw [IndicatorCount.fold_addi_setWidth_eq_card]
  simp only [hc]
  generalize (Finset.univ.filter fun e : Fin 8 => (v (ix2 0 e)).toInt ≤ 256 * (r : ℤ)).card = n at hcard ⊢
  interval_cases n <;> decide

/-- The entry of a block is below 8. -/
theorem pay2_lt (v : IVec S1x8 32) (j : S40x1.Idx) : (k0_pay2 v j).toNat < 8 := by
  have key : ∀ r : Fin 40, (k0_pay2 v (ix2 r 0)).toNat < 8 := fun r => by rw [pay2_apply]; omega
  have h : j = ix2 (n0 := 40) (n1 := 1) (j 0) 0 := by
    funext a
    match a with
    | ⟨0, _⟩ => rfl
    | ⟨1, _⟩ => exact Subsingleton.elim (α := Fin 1) _ _
  rw [h]
  exact key (j 0)

variable {F : FTy → Type} [FloatOps F]

/-- A table of entries below 8 picks, at every point of the grid, a block lying inside each of the four arrays indexed by it. -/
theorem ok_of (pf : pre1.Contents (Elt F)) (h : ∀ j, (pf 0 j : BitVec 32).toNat < 8) : ok1 pf := by
  have hat : ∀ i : grid1.Coords, (pf.at 0 (Rect.unit (s := S40) ![(Scalar.indexCast (BitVec.ofNat 32 (i 0).val)).toNat] S1.size
      (k1_off1_inb i)) numel1_S1 : BitVec 32).toNat < 8 := fun i => h _
  refine ⟨fun i => ⟨fun a => ?_, .inl rfl⟩, fun i => ⟨fun a => ?_, .inl rfl⟩, fun i => ⟨fun a => ?_, .inl rfl⟩,
    fun i => ⟨fun a => ?_, .inl rfl⟩⟩
  · match a with
    | ⟨0, _⟩ => exact Nat.mul_le_mul_right 1 (Nat.succ_le_of_lt (hat i))
    | ⟨1, _⟩ => show (0 + 1) * 1024 ≤ 1024; omega
    | ⟨2, _⟩ => show (0 + 1) * 2048 ≤ 2048; omega
  · match a with
    | ⟨0, _⟩ => exact Nat.mul_le_mul_right 1 (Nat.succ_le_of_lt (hat i))
    | ⟨1, _⟩ => show (0 + 1) * 1 ≤ 1; omega
    | ⟨2, _⟩ => show (0 + 1) * 2048 ≤ 2048; omega
  · match a with
    | ⟨0, _⟩ => exact Nat.mul_le_mul_right 1 (Nat.succ_le_of_lt (hat i))
    | ⟨1, _⟩ => show (0 + 1) * 2048 ≤ 2048; omega
    | ⟨2, _⟩ => show (0 + 1) * 1024 ≤ 1024; omega
  · match a with
    | ⟨0, _⟩ => exact Nat.mul_le_mul_right 1 (Nat.succ_le_of_lt (hat i))
    | ⟨1, _⟩ => show (0 + 1) * 1 ≤ 1; omega
    | ⟨2, _⟩ => show (0 + 1) * 1024 ≤ 1024; omega

end Cert.KernelIdeal.Routing

end
-- ==== Proof.FfnBody.lean ====
/-
  The feed-forward kernel's body at one grid point: from its six inputs it stores `k1_pay1` of them to its result block.
-/
module

public import proofs.«01_k».proof.Proof.Gen.KernelIdeal.Launch
public import proofs.«01_k».proof.Proof.Gen.KernelIdeal.Skeleton
public import Idealize.ShloMosaic.Lib.Tactic
public import Idealize.ShloMosaic.Lib.VecWindow

@[expose] public section

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of a memref's buffer on core `c`. -/
abbrev Bf (c : Dev nD) {sp : Space} {S : Shape} {e : EltTy} (M : Memref sig .tc sp S e) : Type := Buf (Elt F) (M.view.loc (c : Thread nD τ))

/-- A memref's elements held in full at contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- The body's run on any whole staging buffers: the inputs stay, the result block reads `k1_pay1` of the inputs. -/
theorem run (c : Dev nD) (i : grid1.Coords)
    (M0 : Memref sig .tc .vmem S256x1024 .f32) (h0 : M0.IsWhole) (M1 : Memref sig .tc .vmem S256x1 .f32) (h1 : M1.IsWhole)
    (M2 : Memref sig .tc .vmem S1x1024x2048 .f32) (h2 : M2.IsWhole) (M3 : Memref sig .tc .vmem S1x1x2048 .f32) (h3 : M3.IsWhole)
    (M4 : Memref sig .tc .vmem S1x2048x1024 .f32) (h4 : M4.IsWhole) (M5 : Memref sig .tc .vmem S1x1x1024 .f32) (h5 : M5.IsWhole)
    (M6 : Memref sig .tc .vmem S256x1024 .f32) (h6 : M6.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6)
    (E : Set ℕ) (Q : PUnit → sProp 𝕄) :
    iprop(pt c M0 f0 ∗ pt c M1 f1 ∗ pt c M2 f2 ∗ pt c M3 f3 ∗ pt c M4 f4 ∗ pt c M5 f5 ∗ pt c M6 f6
      ∗ (∀ g6, iprop(pt c M0 f0 ∗ pt c M1 f1 ∗ pt c M2 f2 ∗ pt c M3 f3 ∗ pt c M4 f4 ∗ pt c M5 f5 ∗ pt c M6 g6
          ∗ ⌜M6.view.read (Elt F) g6 = k1_pay1 (M0.view.read (Elt F) f0) (M2.view.read (Elt F) f2) (M3.view.read (Elt F) f3) (M4.view.read (Elt F) f4)
              (M5.view.read (Elt F) f5) (M1.view.read (Elt F) f1)⌝) -∗ Q ⟨⟩))
      ⊢ wp frame (wpE (defs₀ (F := F)) Variants.none c none) E
          (cc1__ffn_body i (Memref.whole main_call0_v4) (Memref.isWhole_whole _) M0 h0 M1 h1 M2 h2 M3 h3 M4 h4 M5 h5 M6 h6) Q := by
  rewrite [cc1__ffn_body_eq_skeleton]
  iintro ⟨H0, H1, H2, H3, H4, H5, H6, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  ipureintro
  rw [View.read_writes_full]
  congr 1
  all_goals exact View.readAt_full _ _ _

end Cert.KernelIdeal.Ffn

end
-- ==== Proof.FfnRegion.lean ====
/-
  The feed-forward kernel as a pipeline over 40 points whose weight windows are chosen by the prefetched table: what its arrays and
  staging buffers hold, and the obligation its body meets.
-/
module

public import proofs.«01_k».proof.Proof.Gen.KernelIdeal.Regions
public import proofs.«01_k».proof.Proof.FfnBody
public import Idealize.ShloMosaic.Lib.Pipeline.RegionArraysTS
public import Idealize.ShloMosaic.Lib.Pipeline.FrameBody

@[expose] public section

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F]

local notation "𝕄" => MT nD τ sig Unit (Elt F) ℕ (UR sig nD τ) ℕ

-- the table's contents, and the contents of every buffer when the kernel starts
variable (a : (pcfg1 (F := F)).Adm) (V : Dev nD → Valuation τ sig (Elt F))

/-- The block of window `w`'s array that point `t` works on. -/
abbrev blkIn (c : Dev nD) (w : Fin 7) (t : Fin (cfg1 a).N) : ((cfg1 a).win w).block.Idx → Elt F ((cfg1 a).win w).elt :=
  (((cfg1 a).win w).blk t).view.read (Elt F) (V c (Proc.devRef .tc (Pipeline.arrRef spec1 w)))

/-- What point `t` stores: the feed-forward of its blocks. -/
abbrev outV (c : Dev nD) (t : Fin (cfg1 a).N) : Vec F S256x1024 .f32 :=
  k1_pay1 (blkIn a V c 0 t) (blkIn a V c 2 t) (blkIn a V c 3 t) (blkIn a V c 4 t) (blkIn a V c 5 t) (blkIn a V c 1 t)

/-- The scoped buffers that the call does not stage, at some contents, and the table. -/
abbrev rest1 (c : Dev nD) : sProp 𝕄 :=
  iprop(Pipeline.scopedRest (Ix := Unit) (Name := ℕ) (U := UR sig nD τ) (Lvl := ℕ) (Val := Elt F) spec1 c
    ∗ Pipeline.prefHeld (Ix := Unit) (Name := ℕ) (U := UR sig nD τ) (Lvl := ℕ) pre1 c (fun _ => fullShare) a.1)

/-- The call's proof data: the inputs stay, point `t` leaves its feed-forward block. -/
def dat (c : Dev nD) : Dat τ (Elt F) Unit ℕ (UR sig nD τ) ℕ (cfg1 a) c where
  A w := V c (Proc.devRef .tc (Pipeline.arrRef spec1 w))
  after w t := match w with
    | ⟨0, _⟩ => blkIn a V c 0 t
    | ⟨1, _⟩ => blkIn a V c 1 t
    | ⟨2, _⟩ => blkIn a V c 2 t
    | ⟨3, _⟩ => blkIn a V c 3 t
    | ⟨4, _⟩ => blkIn a V c 4 t
    | ⟨5, _⟩ => blkIn a V c 5 t
    | ⟨6, _⟩ => outV a V c t
  Φ _ := rest1 a c
  q _ := fullShare
  owed _ := 0

theorem before0 (c : Dev nD) (t) (d) : (dat a V c).before 0 t d = blkIn a V c 0 t :=
  (dat a V c).before_in_eq_fetched 0 rfl (fun _ => rfl) (fun _ _ _ => rfl) (fun _ => rfl) t d
theorem before1 (c : Dev nD) (t) (d) : (dat a V c).before 1 t d = blkIn a V c 1 t :=
  (dat a V c).before_in_eq_fetched 1 rfl (fun _ => rfl) (fun _ _ _ => rfl) (fun _ => rfl) t d
theorem before2 (c : Dev nD) (t) (d) : (dat a V c).before 2 t d = blkIn a V c 2 t :=
  (dat a V c).before_in_eq_fetched 2 rfl (fun _ => rfl) (fun _ _ _ => rfl) (fun _ => rfl) t d
theorem before3 (c : Dev nD) (t) (d) : (dat a V c).before 3 t d = blkIn a V c 3 t :=
  (dat a V c).before_in_eq_fetched 3 rfl (fun _ => rfl) (fun _ _ _ => rfl) (fun _ => rfl) t d
theorem before4 (c : Dev nD) (t) (d) : (dat a V c).before 4 t d = blkIn a V c 4 t :=
  (dat a V c).before_in_eq_fetched 4 rfl (fun _ => rfl) (fun _ _ _ => rfl) (fun _ => rfl) t d
theorem before5 (c : Dev nD) (t) (d) : (dat a V c).before 5 t d = blkIn a V c 5 t :=
  (dat a V c).before_in_eq_fetched 5 rfl (fun _ => rfl) (fun _ _ _ => rfl) (fun _ => rfl) t d

/-- The body as the pipeline calls it at point `t`. -/
abbrev bodyAt (t : Fin (cfg1 a).N) : Prog (TpuEff nD τ sig (Elt F) Λ₀ .tc) PUnit :=
  cc1__ffn_body (grid1.coords t) (Memref.whole main_call0_v4) (Memref.isWhole_whole _)
    (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5)) (spec1_6.stage ((cfg1 a).slots t 6)) (hstage1_6 (((cfg1 a).slots t 6).cast nbuf1_6))

theorem bodyAt_eq (t : Fin (cfg1 a).N) : defs₀ (F := F) Proc.tc 1 (t, (cfg1 a).slots t) = bodyAt a t := rfl

/-- The body's obligation at every point. -/
theorem body_obligation (c : Dev nD) : BodyObligation (dat a V c) (defs₀ (F := F)) Variants.none () Set.univ := fun t => by
  rw [bigSep_W1, bigSep_W1]
  simp only [owns]
  rw [show (dat a V c).Φ t.castSucc = rest1 a c from rfl, show (dat a V c).Φ t.succ = rest1 a c from rfl,
    show (dat a V c).owesAt () t.succ = (dat a V c).owesAt () t.castSucc from rfl]
  iintro ⟨HΦ, Howes, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, -, H6⟩⟩
  replace e0 := e0.trans (before0 a V c t d0)
  replace e1 := e1.trans (before1 a V c t d1)
  replace e2 := e2.trans (before2 a V c t d2)
  replace e3 := e3.trans (before3 a V c t d3)
  replace e4 := e4.trans (before4 a V c t d4)
  replace e5 := e5.trans (before5 a V c t d5)
  rw [bodyAt_eq]
  iapply (run c (grid1.coords t) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5)) (spec1_6.stage ((cfg1 a).slots t 6)) (hstage1_6 (((cfg1 a).slots t 6).cast nbuf1_6))
    f0 f1 f2 f3 f4 f5 f6 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro %g6
  iintro ⟨H0, H1, H2, H3, H4, H5, H6, %hg⟩
  isplitl [HΦ]; · iexact HΦ
  isplitl [Howes]; · iexact Howes
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]; · iexists _; isplitr; swap; (· iexact H5); ipureintro; exact e5
  iexists _; isplitr; swap; (· iexact H6); ipureintro
  refine hg.trans ?_
  show k1_pay1 _ _ _ _ _ _ = outV a V c t
  unfold outV
  rw [← e0, ← e1, ← e2, ← e3, ← e4, ← e5]

end Cert.KernelIdeal.Ffn

end
-- ==== Proof.Contents.lean ====
/-
  What the program's arrays hold between its parts: after the routing call, after the host operations that sort the rows by expert, and after
  the call that applies the experts. The table handed to the second call names an expert at every entry.
-/
module

public import proofs.«01_k».proof.Proof.RoutingRegion
public import proofs.«01_k».proof.Proof.RoutingTable
public import proofs.«01_k».proof.Proof.FfnRegion
public import proofs.«01_k».proof.Proof.Gen.KernelIdeal.Regions
public import Idealize.ShloMosaic.Lib.Pipeline.FrameTail
public import Idealize.ShloMosaic.Lib.Pipeline.ValueKit.Geometry
public import Idealize.ShloMosaic.Lib.StableHlo.ReadAt

@[expose] public section

noncomputable section

namespace Cert.KernelIdeal.Whole

open Cert.KernelIdeal Cert.KernelIdeal.Gen
open Idealize.ShloMosaic Idealize.ShloMosaic.TcCoe Idealize.ShloMosaic.Tactic
open Idealize.ShloMosaic.Pipeline (Dat Cfg BodyObligation afterRegion)

variable {F : FTy → Type} [FloatOps F]

/-! ## The routing call -/

section Routing

variable (V : Dev nD → Valuation τ sig (Elt F)) (c : Dev nD)

/-- The routing call leaves the places in its first output array. -/
theorem arr_pos : (Routing.dat V c).arrAt 2 cfg0.N = Routing.posV (Routing.xIn V c) (Routing.wIn V c) :=
  Dat.arrAt_eq_of_after_last _ 2 t0_0 (by decide +kernel) _ (fun _ => rfl)

/-- It leaves the gates in its second output array. -/
theorem arr_gate : (Routing.dat V c).arrAt 3 cfg0.N = Routing.gateV (Routing.xIn V c) (Routing.wIn V c) :=
  Dat.arrAt_eq_of_after_last _ 3 t0_0 (by decide +kernel) _ (fun _ => rfl)

/-- It leaves the experts of the blocks in its third output array. -/
theorem arr_emap : (Routing.dat V c).arrAt 4 cfg0.N = Routing.emapV (Routing.xIn V c) (Routing.wIn V c) :=
  Dat.arrAt_eq_of_after_last _ 4 t0_0 (by decide +kernel) _ (fun _ => rfl)

end Routing

/-! ## The contents at each point of the run -/

variable (m : (ℓ : Loc nD τ sig) → Buf (Elt F) ℓ)

/-- After the routing call. -/
def W2 (c : Dev nD) : Valuation τ sig (Elt F) := afterRegion (Routing.dat (V1 m) c) (V1 m c)

/-- What the routing call leaves, by buffer. -/
def outsA : Outs (F := F) := fun _ r c => W2 m c r

/-- After the host operations that sort the rows: the contents the second call starts from. -/
def W3 (c : Dev nD) : Valuation τ sig (Elt F) := V3 m (outsA m) c

/-- What the host operations leave as the second call's table: the third output of the routing call. -/
theorem after1_table (V : Valuation τ sig (Elt F)) (j : S40.Idx) :
    (StableHlo.after hostOps1 V (Proc.devRef .tc main_call0_v4) : S40.Idx → BitVec 32) j
      = (V (Proc.devRef .tc main_call0_v1_2) : S40x1.Idx → BitVec 32) (ix2 (j 0) 0) := by
  after_reads_at

theorem W2_emap (c : Dev nD) : W2 m c (Proc.devRef .tc main_call0_v1_2) = Routing.emapV (Routing.xIn (V1 m) c) (Routing.wIn (V1 m) c) :=
  (Pipeline.afterRegion_arr (Routing.dat (V1 m) c) (V1 m c) winFacts0.arr_inj 4).trans (arr_emap (V1 m) c)

/-- The contents of the second call's table. -/
def tbl : pre1.Contents (Elt F) := fun k => W3 m 0 (Proc.devRef .tc (pre1.ref k))

/-- Every entry of the table is below 8. -/
theorem tbl_lt (j : S40.Idx) : (tbl m 0 j : BitVec 32).toNat < 8 := by
  have h : (tbl m 0 j : BitVec 32) = Routing.emapV (Routing.xIn (V1 m) 0) (Routing.wIn (V1 m) 0) (ix2 (j 0) 0) := by
    refine (after1_table (V2 m (outsA m) 0) j).trans ?_
    rw [← W2_emap]
    exact congrFun (show V2 m (outsA m) 0 (Proc.devRef .tc main_call0_v1_2) = W2 m 0 (Proc.devRef .tc main_call0_v1_2) by
      exact Function.update_self ..) _
  rw [h]
  exact Routing.pay2_lt _ _

/-- The table, as contents the second call admits. -/
def adm1 : (pcfg1 (F := F)).Adm := ⟨tbl m, Routing.ok_of _ (tbl_lt m)⟩

/-- After the call that applies the experts. -/
def W4 (c : Dev nD) : Valuation τ sig (Elt F) := afterRegion (Ffn.dat (adm1 m) (W3 m) c) (W3 m c)

/-- What each of the two calls leaves, by buffer. -/
def outs : Outs (F := F) := fun
  | 2, r, c => W2 m c r
  | _, r, c => W4 m c r

end Cert.KernelIdeal.Whole

end
-- ==== Proof.Run.lean ====
/-
  The whole program's run. From any memory with every counter at zero it ends with its arguments as they were, every counter at zero, and its
  result the one that `Whole.outs` and the host operations give.
-/
module

public import proofs.«01_k».proof.Proof.Contents
public import Idealize.ShloMosaic.Lib.Pipeline.RegionArraysTS
public import Idealize.ShloMosaic.Lib.Pipeline.Regions

@[expose] public section

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation afterRegion RegionSeg)

variable {F : FTy → Type} [FloatOps F]

local notation "𝕄" => MT nD τ sig Unit (Elt F) ℕ (UR sig nD τ) ℕ

variable (m : (ℓ : Loc nD τ sig) → Buf (Elt F) ℓ)

/-! ## The two calls' data -/

/-- The contents of the tables each call admits: none of the first, `tbl` of the second. -/
def adm : (p : Fin 2) → (pcfgs (F := F) p).Adm
  | ⟨0, _⟩ => cfg0.toPCfg_adm
  | ⟨1, _⟩ => adm1 m

/-- Each call's data: the routing call's from the contents after the first host operations, the other's from those after the sort. -/
def pdats : (p : Fin 2) → (c : Dev nD) → Dat τ (Elt F) Unit ℕ (UR sig nD τ) ℕ (Pipeline.pin (pcfgs (F := F)) (adm m) p) c
  | ⟨0, _⟩ => fun c => Routing.dat (V1 m) c
  | ⟨1, _⟩ => fun c => Ffn.dat (adm1 m) (W3 m) c

/-- The waits that count: those of the TensorCore's semaphores. -/
def lvs (g : GSem nD τ sig) : Finset Unit := if g.1.2 = .tc then Finset.univ else ∅

theorem lvs_off (g : GSem nD τ sig) (h : g.1.2 ≠ .tc) : lvs g = ∅ := if_neg h

theorem cut (p : Fin 2) : Pipeline.LevelCut (pcfgs (F := F)) (adm m) () lvs (fun _ _ => 0) p (fun _ => 0) (fun _ => 0) where
  hι _ _ _ := by unfold lvs; rw [if_pos rfl]; exact Finset.mem_univ _
  hιb _ _ _ := Nat.le_refl _
  hD _ _ _ h := absurd h (Nat.lt_irrefl _)

/-! ## The two calls as parts of the run -/

theorem hshare0 (c : Dev nD) (w : Fin 5) : (Routing.dat (V1 m) c).share w = fullShare := by
  unfold Dat.share; split <;> rfl

theorem hshare1 (c : Dev nD) (w : Fin 7) : (Ffn.dat (adm1 m) (W3 m) c).share w = fullShare := by
  unfold Dat.share; split <;> rfl

/-- The routing call. -/
def R0 : RegionSeg (pcfgs (F := F)) (adm m) (pdats m) () defs₀ Variants.none lvs (fun _ _ => 0) 0 :=
  RegionSeg.ofHeldIn (pcfgs (F := F)) (adm m) (pdats m) () defs₀ Variants.none lvs (fun _ _ => 0) 0 (fun _ => 0) (Pipeline.ucRefs τ sig)
    (fun _ => BI.emp) (fun _ => BI.emp) launch0 rfl (fun c => (Routing.body_obligation (V1 m) c).loose)
    (fun _ _ => rfl) (fun _ => rfl) (hshare0 m)
    (fun c => show iprop(Routing.rest0 c ∗ BI.emp) ⊢ (Routing.rest0 c : sProp 𝕄) by iintro ⟨H, -⟩; iexact H)
    (fun c => show (Routing.rest0 c : sProp 𝕄) ⊢ iprop(Routing.rest0 c ∗ BI.emp) by iintro H; isplitl [H]; · iexact H
                                                                                    iempintro)
    (fun _ => 0) (cut m 0) (fun _ => BI.emp) (V1 m) (fun _ _ => rfl)

/-- The call that applies the experts. -/
def R1 : RegionSeg (pcfgs (F := F)) (adm m) (pdats m) () defs₀ Variants.none lvs (fun _ _ => 0) 1 :=
  RegionSeg.ofHeldInT (pcfgs (F := F)) (adm m) (pdats m) () defs₀ Variants.none lvs (fun _ _ => 0) 1 (fun _ => 0) (Pipeline.ucRefs τ sig)
    (fun _ => BI.emp) (fun _ => BI.emp) launch1 (fun c => (Ffn.body_obligation (adm1 m) (W3 m) c).loose)
    (fun _ _ => rfl) (fun _ => rfl) (hshare1 m)
    (fun c => by
      show _ ⊢ (Ffn.rest1 (adm1 m) c : sProp 𝕄)
      unfold Ffn.rest1
      iintro ⟨⟨H, -⟩, Ht⟩; isplitl [H]; · iexact H
      iexact Ht)
    (fun c => by
      show (Ffn.rest1 (adm1 m) c : sProp 𝕄) ⊢ _
      unfold Ffn.rest1
      iintro ⟨H, Ht⟩; isplitl [H]
      · isplitl [H]; · iexact H
        iempintro
      iexact Ht)
    (fun _ => 0) (cut m 1) (fun _ => BI.emp) (W3 m) (fun _ _ => rfl)
    (fun c k => by obtain rfl : c = 0 := Subsingleton.elim _ _; rfl)

/-! ## The contents the calls leave, as the run writes them -/

/-- After the routing call the contents are those before it but for its three outputs. -/
theorem V2_eq (c : Dev nD) (b : DevRef τ sig) (hb : b ∈ Pipeline.ucRefs τ sig) : W2 m c b = V2 m (outs m) c b := by
  obtain ⟨r, -, rfl⟩ := Finset.mem_map.mp (Finset.mem_filter.mp hb).1
  show W2 m c (Proc.devRef .tc r) = V2 m (outs m) c (Proc.devRef .tc r)
  by_cases h0 : r = main_call0_v1_0
  · subst h0
    show _ = V2 m (outs m) c (Proc.devRef .tc main_call0_v1_0)
    unfold V2
    rw [Function.update_of_ne (StableHlo.devRef_ne_of_ne (by decide)), Function.update_of_ne (StableHlo.devRef_ne_of_ne (by decide)), Function.update_self]
    rfl
  by_cases h1 : r = main_call0_v1_1
  · subst h1
    unfold V2
    rw [Function.update_of_ne (StableHlo.devRef_ne_of_ne (by decide)), Function.update_self]
    rfl
  by_cases h2 : r = main_call0_v1_2
  · subst h2
    unfold V2
    rw [Function.update_self]
    rfl
  rw [V2_of m (outs m) c r (by simp [h0, h1, h2])]
  refine Pipeline.afterRegion_keeps (Routing.dat (V1 m) c) (V1 m c) winFacts0.arr_inj (fun _ => rfl) r fun w hw => ?_
  match w with
  | ⟨0, _⟩ => rfl
  | ⟨1, _⟩ => rfl
  | ⟨2, _⟩ => exact absurd hw.symm h0
  | ⟨3, _⟩ => exact absurd hw.symm h1
  | ⟨4, _⟩ => exact absurd hw.symm h2

/-- After the experts' call the contents are those before it but for its output. -/
theorem V4_eq (c : Dev nD) (b : DevRef τ sig) (hb : b ∈ Pipeline.ucRefs τ sig) : W4 m c b = V4 m (outs m) c b := by
  obtain ⟨r, -, rfl⟩ := Finset.mem_map.mp (Finset.mem_filter.mp hb).1
  show W4 m c (Proc.devRef .tc r) = V4 m (outs m) c (Proc.devRef .tc r)
  by_cases h0 : r = main_call0_v33
  · subst h0
    unfold V4
    rw [Function.update_self]
    rfl
  rw [V4_of m (outs m) c r (by simp [h0])]
  refine Pipeline.afterRegion_keeps (Ffn.dat (adm1 m) (W3 m) c) (W3 m c) winFacts1.arr_inj (fun _ => rfl) r fun w hw => ?_
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => exact absurd hw.symm h0

/-! ## The run -/

/-- What rides along beside the arrays: the core owes nothing. -/
def rest (_ : Fin 3) (c : Dev nD) : sProp 𝕄 := iprop(∃ W, owes (c : Thread nD τ) (0 : CellTallies nD τ sig Unit) W)

theorem arr0_sub : Pipeline.arrRefs spec0 ⊆ Pipeline.ucRefs τ sig := by decide
theorem arr1_sub : Pipeline.arrRefs spec1 ⊆ Pipeline.ucRefs τ sig := by decide
theorem tbl1_sub : Pipeline.tblRefs pre1 ⊆ Pipeline.ucRefs τ sig := by decide

theorem pre0 (c : Dev nD) : iprop(StableHlo.held (c : Thread nD τ) (Pipeline.ucRefs τ sig) (V1 m c) ∗ rest 0 c) ⊢ (R0 m).pre c := by
  refine BIBase.Entails.trans ?_ (RegionSeg.ofHeldIn_pre arr0_sub c)
  unfold rest
  iintro ⟨H, HO⟩
  isplitl [H]; · iexact H
  isplitl [HO]; · iexact HO
  isplitr <;> iempintro

theorem post0 (c : Dev nD) : (R0 m).post c ⊢ iprop(StableHlo.held (c : Thread nD τ) (Pipeline.ucRefs τ sig) (V2 m (outs m) c) ∗ rest 1 c) := by
  refine BIBase.Entails.trans (RegionSeg.ofHeldIn_post arr0_sub c) ?_
  rw [← StableHlo.held_congr (c : Thread nD τ) (V2_eq m c)]
  unfold rest
  iintro ⟨H, HO, -, -⟩
  isplitl [H]; · iexact H
  iexact HO

theorem pre1' (c : Dev nD) : iprop(StableHlo.held (c : Thread nD τ) (Pipeline.ucRefs τ sig) (V3 m (outs m) c) ∗ rest 1 c) ⊢ (R1 m).pre c := by
  have hA : Pipeline.arrRefs (pcfgs (F := F) 1).spec ⊆ Pipeline.ucRefs τ sig := arr1_sub
  have hB : Pipeline.tblRefs (pcfgs (F := F) 1).pre ⊆ Pipeline.ucRefs τ sig := tbl1_sub
  refine BIBase.Entails.trans ?_ (RegionSeg.ofHeldInT_pre hA hB c)
  unfold rest
  iintro ⟨H, HO⟩
  isplitl [H]; · iexact H
  isplitl [HO]; · iexact HO
  isplitr <;> iempintro

theorem post1 (c : Dev nD) : (R1 m).post c ⊢ iprop(StableHlo.held (c : Thread nD τ) (Pipeline.ucRefs τ sig) (V4 m (outs m) c) ∗ rest 2 c) := by
  have hA : Pipeline.arrRefs (pcfgs (F := F) 1).spec ⊆ Pipeline.ucRefs τ sig := arr1_sub
  have hB : Pipeline.tblRefs (pcfgs (F := F) 1).pre ⊆ Pipeline.ucRefs τ sig := tbl1_sub
  refine BIBase.Entails.trans (RegionSeg.ofHeldInT_post hA hB c) ?_
  rw [← StableHlo.held_congr (c : Thread nD τ) (V4_eq m c)]
  unfold rest
  iintro ⟨H, HO, -, -⟩
  isplitl [H]; · iexact H
  iexact HO

/-- The second call's table kept, the state that begins the run. -/
theorem launch_rest (ρ : Dev nD → PrngReg) :
    iprop((bigSep Finset.univ fun c : Dev nD => iprop(unscopedSems0 c ∗ owes (c : Thread nD τ) (0 : CellTallies nD τ sig Unit) ∅
        ∗ Pipeline.launchCred (fun _ => 0) c ∗ prngReg c (ρ c) ∗ BI.emp)) ∗ levAts lvs (fun _ _ => 0))
      ⊢ (|={Set.univ}=> bigSep Finset.univ (rest 0) : sProp 𝕄) := by
  have h1 : ∀ c : Dev nD, iprop(unscopedSems0 c ∗ owes (c : Thread nD τ) (0 : CellTallies nD τ sig Unit) ∅
      ∗ Pipeline.launchCred (fun _ => 0) c ∗ prngReg c (ρ c) ∗ BI.emp) ⊢ (rest 0 c : sProp 𝕄) := fun c => by
    unfold rest
    iintro ⟨-, HO, -⟩
    iexists _
    iexact HO
  iintro ⟨H, -⟩
  imodintro
  have h : (bigSep Finset.univ fun c : Dev nD => iprop(unscopedSems0 c ∗ owes (c : Thread nD τ) (0 : CellTallies nD τ sig Unit) ∅
        ∗ Pipeline.launchCred (fun _ => 0) c ∗ prngReg c (ρ c) ∗ BI.emp)) ⊢ (bigSep Finset.univ (rest 0) : sProp 𝕄) :=
    bigSep_mono fun c _ => h1 c
  iapply h
  iexact H

-- the implicit arguments of the launch theorem are found by unifying its conclusion with this one
set_option backward.isDefEq.respectTransparency.types false in
/-- Every run of the program from memory `m` with all counters at zero ends; at its end the arguments hold what they held, every counter
    is zero, and the result's array holds what the last host operations leave. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v0) = V5 m (outs m) c (Proc.devRef .tc main_v0))
      ∧ r.2.sem = fun _ => 0) := by
  refine Pipeline.θ_run_regions_kit_dev_sems (pcfgs (F := F)) (adm m) (pdats m) () (cellOf_inj (adm m)) emb₁ defs₀ Variants.none lvs
    (fun _ _ => 0) m ρ main (segs m (outs m) Variants.none lvs (fun _ _ => 0) rest () (adm m) (pdats m) (R0 m) (R1 m))
    (fun c Q => by
      rewrite [main_chain c, Pipeline.Seg.run_eq_chain,
        show (segs m (outs m) Variants.none lvs (fun _ _ => 0) rest () (adm m) (pdats m) (R0 m) (R1 m) c).map Pipeline.Seg.prog = [
          StableHlo.seq hostOps0, Prog.lift (.customCall (Pipeline.entry 0) ()), StableHlo.seq hostOps1,
          Prog.lift (.customCall (Pipeline.entry 1) ()), StableHlo.seq hostOps2 ] from rfl]
      exact .rfl)
    (fun c => by simp only [segs, Pipeline.Seg.pipes_host, Pipeline.Seg.pipes_region, Pipeline.Seg.pipes_nil]; decide)
    (fun _ => 0) lvs_off (fun _ => BI.emp)
    (initOf (Pipeline.cells (Pipeline.pin (pcfgs (F := F)) (adm m)) (cellOf_inj (adm m)))
      (Pipeline.launchToks (Pipeline.pin (pcfgs (F := F)) (adm m)) (cellOf_inj (adm m)))) ?hu
    (T₀ := fun c => iprop(StableHlo.held (c : Thread nD τ) (Pipeline.ucRefs τ sig) (V0 m c) ∗ rest 0 c))
    (Tₙ := fun c => StableHlo.held (c : Thread nD τ) (Pipeline.ucRefs τ sig) (V5 m (outs m) c))
    (hch := fun c => ⟨.rfl, pre0 m c, post0 m c, pre1' m c, post1 m c, sep_mono .rfl .rfl⟩)
    (hinit := ?hinit)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_v0) = V5 m (outs m) c (Proc.devRef .tc main_v0))
    (hfin := fun c s' => ?hfin)
    (hQ := fun _ h hz => ⟨h, funext fun g => hz g (.inr (regions_no_unscoped g.2))⟩)
  case hu =>
    iintro Hu
    imodintro
    isplitl [Hu]
    · iapply (show (ownU _ : sProp 𝕄) ⊢ BI.own (emb₁ (initOf (Pipeline.cells (Pipeline.pin (pcfgs (F := F)) (adm m)) (cellOf_inj (adm m)))
        (Pipeline.launchToks (Pipeline.pin (pcfgs (F := F)) (adm m)) (cellOf_inj (adm m))))) from .rfl)
      iexact Hu
    iapply (show (BI.emp : sProp 𝕄) ⊢ bigSep Finset.univ (fun _ : Dev nD => (BI.emp : sProp 𝕄)) from by rw [BI.bigSep_emp_const])
    iempintro
  case hinit =>
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅
              ∗ Pipeline.launchCred (fun _ => 0) c ∗ prngReg c (ρ c) ∗ BI.emp)) : sProp 𝕄) := by
      rw [← bigSep_sep']
      exact bigSep_mono fun c _ => by
        rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (launch_rest ρ) $$ [Hr Hla] with HE
    · isplitl [Hr]; · iexact Hr
      iexact Hla
    imodintro
    rw [bigSep_sep']
    isplitl [Hh]; · iexact Hh
    iexact HE
  case hfin =>
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        (h (Proc.devRef .tc main_arg3) (Finset.mem_filter.mpr ⟨StableHlo.devRef_mem_tcRefs main_arg3, by decide⟩)).trans (V5_main_arg3 m (outs m) c),
        (h (Proc.devRef .tc main_arg4) (Finset.mem_filter.mpr ⟨StableHlo.devRef_mem_tcRefs main_arg4, by decide⟩)).trans (V5_main_arg4 m (outs m) c),
        (h (Proc.devRef .tc main_arg5) (Finset.mem_filter.mpr ⟨StableHlo.devRef_mem_tcRefs main_arg5, by decide⟩)).trans (V5_main_arg5 m (outs m) c),
        h (Proc.devRef .tc main_v0) (Finset.mem_filter.mpr ⟨StableHlo.devRef_mem_tcRefs main_v0, by decide⟩)⟩
    · iexact HSI

end Cert.KernelIdeal.Whole

end
-- ==== Proof.Value.Choice.lean ====
/-
  The two greatest entries of a row of eight extended reals, the earlier one first where entries are equal: as the least index
  reaching the row's maximum, and the same of the row with that entry hidden.
-/
module

public import Mathlib.Data.EReal.Basic
public import Mathlib.Data.Finset.Fold
public import Mathlib.Data.Finset.Max
public import Mathlib.Data.Finset.Lattice.Fold
public import Mathlib.Data.Fintype.Basic

@[expose] public section

noncomputable section

namespace Cert.Moe

variable (l : Fin 8 → EReal)

/-- A row has a greatest entry. -/
theorem exists_greatest : (Finset.univ.filter fun i : Fin 8 => ∀ j, l j ≤ l i).Nonempty := by
  obtain ⟨i, -, h⟩ := Finset.exists_max_image Finset.univ l ⟨0, Finset.mem_univ _⟩
  exact ⟨i, Finset.mem_filter.mpr ⟨Finset.mem_univ _, fun j => h j (Finset.mem_univ _)⟩⟩

/-- The first of a row's greatest entries. -/
def first : Fin 8 := (Finset.univ.filter fun i : Fin 8 => ∀ j, l j ≤ l i).min' (exists_greatest l)

theorem le_first (j : Fin 8) : l j ≤ l (first l) :=
  (Finset.mem_filter.mp (Finset.min'_mem _ (exists_greatest l))).2 j

theorem first_le (i : Fin 8) (h : l i = l (first l)) : first l ≤ i :=
  Finset.min'_le _ _ (Finset.mem_filter.mpr ⟨Finset.mem_univ _, fun j => h ▸ le_first l j⟩)

/-- The fold of the maximum is the entry at `first`. -/
theorem fold_max_eq : Finset.univ.fold max ⊥ l = l (first l) := by
  apply le_antisymm
  · exact Finset.fold_max_le (c := l (first l)) |>.mpr ⟨bot_le, fun x _ => le_first l x⟩
  · exact Finset.le_fold_max (c := l (first l)) |>.mpr (Or.inr ⟨first l, Finset.mem_univ _, le_rfl⟩)

/-- The fold of the minimum over the indices reaching the maximum, eight elsewhere, is `first`. -/
theorem fold_min_eq (v : EReal) (hv : v = l (first l)) :
    (Finset.univ : Finset (Fin 8)).fold min ⊤ (fun e => if l e = v then ((e : ℕ) : EReal) else 8) = ((first l : ℕ) : EReal) := by
  subst hv
  apply le_antisymm
  · exact (Finset.fold_min_le _).mpr (Or.inr ⟨first l, Finset.mem_univ _, by rw [if_pos rfl]⟩)
  · refine (Finset.le_fold_min _).mpr ⟨le_top, fun e _ => ?_⟩
    split
    · next h => exact Nat.cast_le.mpr (Fin.le_def.mp (first_le l e h))
    · have h8 : ((8 : ℕ) : EReal) = 8 := rfl
      rw [← h8]
      exact Nat.cast_le.mpr (by have := (first l).isLt; omega)

/-- The row with entry `i` hidden. -/
def hide (i : Fin 8) : Fin 8 → EReal := fun e => if e = i then ⊥ else l e

/-- The first of the greatest entries other than the first greatest one. -/
def second : Fin 8 := first (hide l (first l))

variable {l}

/-- The second choice is another entry than the first, where no entry is `-∞`. -/
theorem second_ne (h : ∀ e, l e ≠ ⊥) : second l ≠ first l := by
  intro he
  obtain ⟨i, hi⟩ : ∃ i : Fin 8, i ≠ first l := exists_ne _
  have h1 := le_first (hide l (first l)) i
  change hide l (first l) i ≤ hide l (first l) (second l) at h1
  rw [he] at h1
  simp only [hide, if_neg hi, if_true] at h1
  exact h i (le_bot_iff.mp h1)

/-- The entry at the second choice. -/
theorem hide_second (h : ∀ e, l e ≠ ⊥) : hide l (first l) (second l) = l (second l) := by
  unfold hide; rw [if_neg (second_ne h)]

/-- No entry but the first choice is above the second's. -/
theorem le_second (h : ∀ e, l e ≠ ⊥) (e : Fin 8) (he : e ≠ first l) : l e ≤ l (second l) := by
  have h1 := le_first (hide l (first l)) e
  change hide l (first l) e ≤ hide l (first l) (second l) at h1
  rw [hide_second h] at h1
  simpa [hide, he] using h1

/-- Among the entries equal to the second's, but the first choice, the second choice comes first. -/
theorem second_le (h : ∀ e, l e ≠ ⊥) (e : Fin 8) (he : e ≠ first l) (hl : l e = l (second l)) : second l ≤ e := by
  refine first_le (hide l (first l)) e ?_
  change hide l (first l) e = hide l (first l) (second l)
  rw [hide_second h, ← hl]
  simp [hide, he]

end Cert.Moe

end
-- ==== Proof.Value.Words.lean ====
/-
  Small facts on words and on the extended reals: the constants of the routing kernel, natural numbers through the conversions
  between words and floats, and rounding up to a multiple of 256 by shifts.
-/
module

public import Idealize.ShloMosaic.PureOps.Ideal
public import Mathlib.Tactic.NormNum

@[expose] public section

noncomputable section

namespace Cert.Moe

open Idealize.ShloMosaic

/-- The pattern of minus infinity. -/
theorem ofBits_bot : Ideal.ofBits FTy.f32 4286578688#32 = (⊥ : EReal) := by
  simp [Ideal.ofBits, Ideal.ieee]

/-- The pattern of plus infinity. -/
theorem ofBits_top : Ideal.ofBits FTy.f32 2139095040#32 = (⊤ : EReal) := by
  simp [Ideal.ofBits, Ideal.ieee]

/-- The pattern of eight. -/
theorem ofBits_eight : Ideal.ofBits FTy.f32 1090519040#32 = (8 : EReal) := by
  have e1 : (1090519040#32).extractLsb' (8 + 23) 1 = 0#1 := by decide
  have e2 : ((1090519040#32).extractLsb' 23 8).toNat = 130 := by decide
  have e3 : ((1090519040#32).extractLsb' 0 23).toNat = 0 := by decide
  have h : ((8 : ℝ) : EReal) = 8 := rfl
  unfold Ideal.ofBits Ideal.ieee
  simp only [e1, e2, e3]
  rw [← h]
  norm_num

/-- A natural number's word, read signed. -/
theorem toInt_ofNat {n : ℕ} (h : n < 2 ^ 31) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

/-- A natural number's word as a float is the number. -/
theorem sitofp_ofNat {n : ℕ} (h : n < 2 ^ 31) : FloatOps.sitofp (F := Ideal) FTy.f32 (BitVec.ofNat 32 n) = (n : EReal) := by
  show (((BitVec.ofNat 32 n).toInt : ℝ) : EReal) = n
  rw [toInt_ofNat h]
  simp

/-- A truth value as a float is one or zero. -/
theorem sitofp_ofBool (p : Prop) [Decidable p] :
    FloatOps.sitofp (F := Ideal) FTy.f32 (BitVec.setWidth 32 (BitVec.ofBool (decide p))) = if p then (1 : EReal) else 0 := by
  by_cases h : p
  · simp only [h, decide_true, if_true]
    exact sitofp_ofNat (n := 1) (by norm_num) |>.trans (by simp)
  · simp only [h, decide_false, if_false]
    exact sitofp_ofNat (n := 0) (by norm_num) |>.trans (by simp)

/-- A natural number as a float, converted to a word, is the number's word. -/
theorem fptosi_natCast {n : ℕ} (h : n < 2 ^ 31) : Ideal.fptosi 32 (n : EReal) = BitVec.ofNat 32 n := by
  have h1 : (n : EReal) = ((n : ℝ) : EReal) := by simp
  unfold Ideal.fptosi
  rw [h1, Ideal.toIntClamped_coe, if_pos (Nat.cast_nonneg n), Int.floor_natCast, min_eq_right (by omega), max_eq_right (by omega),
    BitVec.ofInt_natCast]

/-- Adding 255 and shifting right and left by eight rounds up to a multiple of 256. -/
theorem round_up {n : ℕ} (h : n ≤ 8192) :
    IntOp.shli ArithUnit.vector (IntOp.shrsi ArithUnit.vector (IntOp.addi (BitVec.ofNat 32 n) 255#32) 8#32) 8#32
      = BitVec.ofNat 32 ((n + 255) / 256 * 256) := by
  have h1 : IntOp.addi (BitVec.ofNat 32 n) 255#32 = BitVec.ofNat 32 (n + 255) := by
    unfold IntOp.addi
    exact (BitVec.ofNat_add n 255).symm
  rw [h1]
  unfold IntOp.shli IntOp.shrsi
  rw [if_pos (by decide), if_pos (by decide)]
  apply BitVec.eq_of_toNat_eq
  have h2 : (BitVec.ofNat 32 (n + 255)).sshiftRight' 8#32 = (BitVec.ofNat 32 (n + 255)).sshiftRight 8 := rfl
  rw [h2, BitVec.sshiftRight_eq_of_msb_false (BitVec.msb_eq_false_iff_two_mul_lt.mpr (by simp; omega))]
  simp [Nat.shiftLeft_eq, Nat.shiftRight_eq_div_pow]
  omega

end Cert.Moe

end
-- ==== Proof.Value.Experts.lean ====
/-
  The routing kernel's choices over the extended reals: for each token, the first of the greatest logits and the first of the
  greatest of the others, and the two weights as functions of the two logits.
-/
module

public import proofs.«01_k».proof.Proof.RoutingValue
public import proofs.«01_k».proof.Proof.Value.Choice
public import proofs.«01_k».proof.Proof.Value.Words
public import Idealize.ShloMosaic.Lib.Pointwise
public import Idealize.ShloMosaic.Lib.Pointwise.Reduce

@[expose] public section

noncomputable section

namespace Cert.KernelIdeal.Routing

open Cert.KernelIdeal Cert.KernelIdeal.Gen Cert.Moe
open Idealize.ShloMosaic

variable (x : Vec Ideal S4096x1024 .f32) (wr : Vec Ideal S1024x8 .f32)

/-- The logits of token `t`: its row times the router's weights. -/
def logit (t : Fin 4096) : Fin 8 → EReal := fun e => ∑ k : Fin 1024, x (ix2 t k) * wr (ix2 k e)

theorem pay3_apply (t : Fin 4096) (e : Fin 8) : k0_pay3 x wr (ix2 t e) = logit x wr t e := by
  unfold k0_pay3
  pointwise
  rfl

/-- The greatest logit. -/
theorem pay5_apply (t : Fin 4096) : k0_pay5 x wr (ix2 t 0) = logit x wr t (first (logit x wr t)) := by
  unfold k0_pay5
  pointwise
  simp only [pay3_apply]
  rw [ofBits_bot]
  exact fold_max_eq (logit x wr t)

/-- The first choice. -/
theorem pay6_apply (t : Fin 4096) : k0_pay6 x wr (ix2 t 0) = ((first (logit x wr t) : ℕ) : EReal) := by
  have hs : ∀ e : Fin 8, FloatOps.sitofp (F := Ideal) FTy.f32 (BitVec.ofNat 32 e.val) = (e.val : EReal) :=
    fun e => sitofp_ofNat (by have := e.isLt; omega)
  unfold k0_pay6 k0_pay4
  pointwise
  simp only [pay3_apply, hs]
  rw [ofBits_top, ofBits_eight]
  exact fold_min_eq (logit x wr t) _ (pay5_apply x wr t)

/-- The logits with the first choice hidden. -/
theorem pay7_apply (t : Fin 4096) (e : Fin 8) :
    k0_pay7 x wr (ix2 t e) = hide (logit x wr t) (first (logit x wr t)) e := by
  have hs : FloatOps.sitofp (F := Ideal) FTy.f32 (BitVec.ofNat 32 e.val) = (e.val : EReal) :=
    sitofp_ofNat (by have := e.isLt; omega)
  unfold k0_pay7 k0_pay4
  pointwise
  rw [hs, pay6_apply, pay3_apply, ofBits_bot]
  unfold hide
  simp only [Nat.cast_inj, Fin.val_inj]

/-- The greatest of the other logits. -/
theorem pay8_apply (t : Fin 4096) :
    k0_pay8 x wr (ix2 t 0) = hide (logit x wr t) (first (logit x wr t)) (second (logit x wr t)) := by
  unfold k0_pay8
  pointwise
  simp only [pay7_apply]
  rw [ofBits_bot]
  exact fold_max_eq (hide (logit x wr t) (first (logit x wr t)))

/-- The second choice. -/
theorem pay9_apply (t : Fin 4096) : k0_pay9 x wr (ix2 t 0) = ((second (logit x wr t) : ℕ) : EReal) := by
  have hs : ∀ e : Fin 8, FloatOps.sitofp (F := Ideal) FTy.f32 (BitVec.ofNat 32 e.val) = (e.val : EReal) :=
    fun e => sitofp_ofNat (by have := e.isLt; omega)
  unfold k0_pay9 k0_pay4
  pointwise
  simp only [pay7_apply, hs]
  rw [ofBits_top, ofBits_eight]
  exact fold_min_eq (hide (logit x wr t) (first (logit x wr t))) _ (pay8_apply x wr t)

/-- The choice numbered `a`: the first choices of all tokens, then the second choices. -/
def choice (a : Fin 8192) : Fin 8 :=
  if h : a.val < 4096 then first (logit x wr ⟨a.val, h⟩) else second (logit x wr ⟨a.val - 4096, by omega⟩)

theorem expertV_apply (a : Fin 8192) : expertV x wr (ix2 a 0) = ((choice x wr a : ℕ) : EReal) := by
  unfold choice
  by_cases h : a.val < 4096
  · rw [dif_pos h]
    refine (dif_pos (show ((ix2 a (0 : Fin 1) : S8192x1.Idx) 0).val < 4096 from h)).trans ?_
    unfold k0_pay13
    pointwise
    exact pay6_apply x wr _
  · rw [dif_neg h]
    refine (dif_neg (show ¬ ((ix2 a (0 : Fin 1) : S8192x1.Idx) 0).val < 4096 from h)).trans ?_
    unfold k0_pay14
    pointwise
    exact pay9_apply x wr _

/-- The weight of a token's first choice, of the second logit less the first. -/
def weight1 (d : EReal) : EReal := Ideal.div 1 (1 + Ideal.exp d)

/-- The weight of a token's second choice, of the second logit less the first. -/
def weight2 (d : EReal) : EReal := Ideal.div (Ideal.exp d) (1 + Ideal.exp d)

/-- The second greatest logit less the greatest. -/
def gap (t : Fin 4096) : EReal :=
  hide (logit x wr t) (first (logit x wr t)) (second (logit x wr t)) - logit x wr t (first (logit x wr t))

theorem gateV_first (t : Fin 4096) : gateV x wr (ix2 ⟨t.val, by omega⟩ 0) = weight1 (gap x wr t) := by
  unfold gateV stack
  rw [dif_pos (show ((ix2 (⟨t.val, by omega⟩ : Fin 8192) (0 : Fin 1) : S8192x1.Idx) 0).val < 4096 from t.isLt)]
  show k0_pay11 x wr (ix2 t 0) = _
  unfold k0_pay11 k0_pay10
  pointwise
  rw [pay8_apply, pay5_apply]
  rfl

theorem gateV_second (t : Fin 4096) : gateV x wr (ix2 ⟨4096 + t.val, by omega⟩ 0) = weight2 (gap x wr t) := by
  unfold gateV stack
  rw [dif_neg (show ¬ ((ix2 (⟨4096 + t.val, by omega⟩ : Fin 8192) (0 : Fin 1) : S8192x1.Idx) 0).val < 4096 from
    Nat.not_lt.mpr (Nat.le_add_right _ _))]
  have h : (ix2 (⟨((ix2 (⟨4096 + t.val, by omega⟩ : Fin 8192) (0 : Fin 1) : S8192x1.Idx) 0).val - 4096,
      by have : 4096 + t.val - 4096 < 4096 := by omega
         exact this⟩ : Fin 4096) (0 : Fin 1) : S4096x1.Idx) = ix2 t 0 :=
    congrArg (fun i : Fin 4096 => (ix2 i (0 : Fin 1) : S4096x1.Idx)) (Fin.ext (Nat.add_sub_cancel_left 4096 t.val))
  refine (congrArg (k0_pay12 x wr) h).trans ?_
  unfold k0_pay12 k0_pay10
  pointwise
  rw [pay8_apply, pay5_apply]
  rfl

end Cert.KernelIdeal.Routing

end
-- ==== Proof.Value.Places.lean ====
/-
  Sorting `n` choices by expert, each expert's choices padded to a multiple of 256 places: where each choice goes.

  `place c a` is the start of the stretch of choice `a`'s expert plus the number of earlier choices of that expert. Places are
  below `n + 2048`, no two choices have one place, and a block of 256 places lies inside the stretch of one expert, which is the
  number of stretches that end at or before the block's start.
-/
module

public import Mathlib.Algebra.BigOperators.Fin
public import Mathlib.Algebra.Order.BigOperators.Group.Finset
public import Mathlib.Data.Fintype.BigOperators
public import Mathlib.Tactic.IntervalCases
public import Mathlib.Tactic.FinCases

@[expose] public section

namespace Cert.Moe

variable {n : ℕ} (c : Fin n → Fin 8)

/-- How many of the first `k` choices name expert `e`. -/
def upto (k : ℕ) (e : Fin 8) : ℕ := (Finset.univ.filter fun a : Fin n => a.val < k ∧ c a = e).card

/-- How many choices name expert `e`. -/
def total (e : Fin 8) : ℕ := upto c n e

/-- The places of expert `e`: its choices, rounded up to a multiple of 256. -/
def cap (e : Fin 8) : ℕ := (total c e + 255) / 256 * 256

/-- Where expert `e`'s stretch ends. -/
def stop (e : Fin 8) : ℕ := ∑ i ∈ Finset.univ.filter fun i => i ≤ e, cap c i

/-- Where expert `e`'s stretch starts. -/
def start (e : Fin 8) : ℕ := ∑ i ∈ Finset.univ.filter fun i => i < e, cap c i

/-- The place of choice `a`. -/
def place (a : Fin n) : ℕ := start c (c a) + upto c a.val (c a)

theorem upto_zero (e : Fin 8) : upto c 0 e = 0 := by
  unfold upto
  rw [Finset.card_eq_zero, Finset.filter_eq_empty_iff]
  rintro a - ⟨h, -⟩
  omega

/-- One more choice counts for its own expert. -/
theorem upto_succ (a : Fin n) (e : Fin 8) : upto c (a.val + 1) e = upto c a.val e + if c a = e then 1 else 0 := by
  unfold upto
  by_cases h : c a = e
  · rw [if_pos h]
    have : (Finset.univ.filter fun b : Fin n => b.val < a.val + 1 ∧ c b = e)
        = insert a (Finset.univ.filter fun b : Fin n => b.val < a.val ∧ c b = e) := by
      ext b
      simp only [Finset.mem_filter, Finset.mem_univ, true_and, Finset.mem_insert]
      constructor
      · rintro ⟨h1, h2⟩
        rcases Nat.lt_succ_iff_lt_or_eq.mp h1 with h3 | h3
        · exact Or.inr ⟨h3, h2⟩
        · exact Or.inl (Fin.ext h3)
      · rintro (rfl | ⟨h1, h2⟩)
        · exact ⟨Nat.lt_succ_self _, h⟩
        · exact ⟨by omega, h2⟩
    exact (congrArg Finset.card this).trans (Finset.card_insert_of_notMem (by simp))
  · rw [if_neg h, add_zero]
    refine congrArg Finset.card (Finset.ext fun b => ?_)
    simp only [Finset.mem_filter, Finset.mem_univ, true_and]
    constructor
    · rintro ⟨h1, h2⟩
      rcases Nat.lt_succ_iff_lt_or_eq.mp h1 with h3 | h3
      · exact ⟨h3, h2⟩
      · exact absurd (Fin.ext h3 ▸ h2) h
    · rintro ⟨h1, h2⟩
      exact ⟨by omega, h2⟩

/-- `m` more choices, counted one by one. -/
theorem upto_add (k m : ℕ) (hk : k + m ≤ n) (e : Fin 8) :
    upto c (k + m) e = upto c k e + ∑ x : Fin m, if c ⟨k + x.val, by omega⟩ = e then 1 else 0 := by
  induction m with
  | zero => simp
  | succ m ih =>
    have h := upto_succ c ⟨k + m, by omega⟩ e
    rw [Fin.sum_univ_castSucc, ← add_assoc, ← Nat.add_assoc]
    simp only [Fin.val_castSucc, Fin.val_last]
    rw [h, ih (by omega)]

theorem upto_mono {k k' : ℕ} (h : k ≤ k') (e : Fin 8) : upto c k e ≤ upto c k' e := by
  refine Finset.card_le_card fun a => ?_
  simp only [Finset.mem_filter, Finset.mem_univ, true_and]
  exact fun ⟨h1, h2⟩ => ⟨by omega, h2⟩

theorem upto_lt (a b : Fin n) (h : a < b) : upto c a.val (c a) < upto c b.val (c a) := by
  have h1 := upto_succ c a (c a)
  have h2 := upto_mono c (show a.val + 1 ≤ b.val from h) (c a)
  rw [if_pos rfl] at h1
  omega

theorem upto_lt_total (a : Fin n) : upto c a.val (c a) < total c (c a) := by
  have h1 := upto_succ c a (c a)
  have h2 := upto_mono c (show a.val + 1 ≤ n from a.isLt) (c a)
  rw [if_pos rfl] at h1
  unfold total
  omega

theorem total_sum : ∑ e, total c e = n := by
  have h := Finset.card_eq_sum_card_fiberwise (s := (Finset.univ : Finset (Fin n))) (t := Finset.univ) (f := c)
    (fun _ _ => Finset.mem_coe.mpr (Finset.mem_univ _))
  rw [Finset.card_univ, Fintype.card_fin] at h
  refine Eq.trans (Finset.sum_congr rfl fun e _ => ?_) h.symm
  unfold total upto
  congr 1
  ext a
  simp [a.isLt]

theorem total_le (e : Fin 8) : total c e ≤ n := by
  exact (Finset.single_le_sum (f := total c) (fun _ _ => Nat.zero_le _) (Finset.mem_univ e)).trans (total_sum c).le

theorem total_le_cap (e : Fin 8) : total c e ≤ cap c e := by unfold cap; omega

theorem cap_le (e : Fin 8) : cap c e ≤ total c e + 255 := by unfold cap; omega

theorem stop_eq (e : Fin 8) : stop c e = start c e + cap c e := by
  unfold stop start
  have : (Finset.univ.filter fun i : Fin 8 => i ≤ e) = insert e (Finset.univ.filter fun i : Fin 8 => i < e) := by
    ext i
    simp only [Finset.mem_filter, Finset.mem_univ, true_and, Finset.mem_insert]
    exact le_iff_eq_or_lt
  rw [this, Finset.sum_insert (by simp), add_comm]

theorem stop_le_start {e e' : Fin 8} (h : e < e') : stop c e ≤ start c e' := by
  unfold stop start
  refine Finset.sum_le_sum_of_subset fun i => ?_
  simp only [Finset.mem_filter, Finset.mem_univ, true_and]
  exact fun hi => lt_of_le_of_lt hi h

theorem stop_mono {e e' : Fin 8} (h : e ≤ e') : stop c e ≤ stop c e' := by
  rcases h.eq_or_lt with rfl | h
  · exact le_rfl
  · exact (stop_le_start c h).trans (by rw [stop_eq c e']; omega)

theorem stop_le (e : Fin 8) : stop c e ≤ n + 2040 := by
  have h1 : stop c e ≤ ∑ i, cap c i := Finset.sum_le_sum_of_subset (Finset.filter_subset _ _)
  have h2 : ∑ i, cap c i ≤ ∑ i : Fin 8, (total c i + 255) := Finset.sum_le_sum fun i _ => cap_le c i
  rw [Finset.sum_add_distrib, total_sum] at h2
  simp at h2
  omega

theorem dvd_start (e : Fin 8) : 256 ∣ start c e :=
  Finset.dvd_sum fun i _ => Dvd.intro_left _ rfl

theorem place_lt_stop (a : Fin n) : place c a < stop c (c a) := by
  have h1 := upto_lt_total c a
  have h2 := total_le_cap c (c a)
  rw [stop_eq]
  unfold place
  omega

theorem place_lt (a : Fin n) : place c a < n + 2048 := by
  have h1 := place_lt_stop c a
  have h2 := stop_le c (c a)
  omega

/-- The stretches that end at or before the block of a choice's place are those of the experts before the choice's. -/
theorem stops_before (a : Fin n) :
    (Finset.univ.filter fun e : Fin 8 => stop c e ≤ 256 * (place c a / 256)).card = (c a).val := by
  have h : (Finset.univ.filter fun e : Fin 8 => stop c e ≤ 256 * (place c a / 256)) = Finset.univ.filter fun e => e < c a := by
    ext e
    simp only [Finset.mem_filter, Finset.mem_univ, true_and]
    constructor
    · intro h
      by_contra hn
      have h1 := stop_mono c (not_lt.mp hn)
      have h2 := place_lt_stop c a
      omega
    · intro h
      have h1 := stop_le_start c h
      obtain ⟨q, hq⟩ := dvd_start c (c a)
      have h2 : start c (c a) ≤ place c a := Nat.le_add_right _ _
      omega
  rw [h]
  generalize c a = e
  fin_cases e <;> decide

/-- The choices at places of one block name one expert. -/
theorem expert_of_block {a b : Fin n} (h : place c a / 256 = place c b / 256) : c a = c b := by
  apply Fin.ext
  rw [← stops_before c a, ← stops_before c b, h]

/-- No two choices have one place. -/
theorem place_injective : Function.Injective (place c) := by
  intro a b h
  have hc : c a = c b := expert_of_block c (by rw [h])
  unfold place at h
  rw [← hc] at h
  rcases lt_trichotomy a b with hl | hl | hl
  · have := upto_lt c a b hl; omega
  · exact hl
  · have := upto_lt c b a hl; rw [← hc] at this; omega

end Cert.Moe
-- ==== Proof.Value.Counts.lean ====
/-
  The routing kernel's counting over the extended reals, where the choices are those of a function `c` into the eight experts:
  block by block it counts each expert's choices, so that a choice's rank, its place and the expert of each block of places are
  those of `Cert.Moe`.
-/
module

public import proofs.«01_k».proof.Proof.RoutingTable
public import proofs.«01_k».proof.Proof.Value.Places
public import proofs.«01_k».proof.Proof.Value.Words
public import Idealize.ShloMosaic.Lib.Pointwise
public import Idealize.ShloMosaic.Lib.Pointwise.Reduce

@[expose] public section

noncomputable section

namespace Cert.KernelIdeal.Routing

open Cert.KernelIdeal Cert.KernelIdeal.Gen Cert.Moe
open Idealize.ShloMosaic

theorem sitofp_expert (e : Fin 8) : FloatOps.sitofp (F := Ideal) FTy.f32 (BitVec.ofNat 32 e.val) = (e.val : EReal) :=
  sitofp_ofNat (by have := e.isLt; omega)

/-- A sum over the indices below `r`. -/
theorem sum_below {n : ℕ} (r : Fin n) (f : Fin n → EReal) :
    (∑ y : Fin n, if y.val < r.val then f y else 0) = ∑ y : Fin r.val, f ⟨y.val, y.isLt.trans r.isLt⟩ := by
  rw [← Finset.sum_filter]
  refine (Finset.sum_bij (fun (y : Fin r.val) _ => (⟨y.val, y.isLt.trans r.isLt⟩ : Fin n)) ?_ ?_ ?_ ?_).symm
  · intro y _
    exact Finset.mem_filter.2 ⟨Finset.mem_univ _, y.isLt⟩
  · intro y _ z _ h
    exact Fin.ext (Fin.mk.inj h)
  · intro y hy
    exact ⟨⟨y.val, (Finset.mem_filter.1 hy).2⟩, Finset.mem_univ _, rfl⟩
  · intro y _
    rfl

variable {e : Vec Ideal S8192x1 .f32} {c : Fin 8192 → Fin 8} (he : ∀ a, e (ix2 a 0) = ((c a : ℕ) : EReal))
include he

/-- Block `k`'s rows are the choices from `256 k` on. -/
theorem rowsV_apply (k : ℕ) (hk : k < 32) (r : Fin 256) :
    rowsV e k (ix2 r 0) = ((c ⟨256 * k + r.val, by omega⟩ : ℕ) : EReal) := by
  have h : (⟨(256 * k + r.val) % 8192, Nat.mod_lt _ (by norm_num)⟩ : Fin 8192) = ⟨256 * k + r.val, by omega⟩ :=
    Fin.ext (Nat.mod_eq_of_lt (by omega))
  show e (ix2 (⟨(256 * k + r.val) % 8192, Nat.mod_lt _ (by norm_num)⟩ : Fin 8192) 0) = _
  rw [h, he]

/-- After `k` blocks the carried row counts the first `256 k` choices. -/
theorem carryV_apply (k : ℕ) (hk : k ≤ 32) (i : Fin 8) : carryV e k (ix2 0 i) = ((upto c (256 * k) i : ℕ) : EReal) := by
  induction k with
  | zero =>
    show k0_pay15 (ix2 0 i) = _
    unfold k0_pay15
    pointwise
    exact ((congrArg Nat.cast (upto_zero c i)).trans Nat.cast_zero).symm
  | succ k ih =>
    show k0_pay18 k0_pay4 (carryV e k) (rowsV e k) (ix2 0 i) = _
    unfold k0_pay18 k0_pay16 k0_pay4
    pointwise
    rw [ih (by omega), show 256 * (k + 1) = 256 * k + 256 from by ring, upto_add c (256 * k) 256 (by omega) i, Nat.cast_add,
      Nat.cast_sum]
    refine congrArg _ (Finset.sum_congr rfl fun r _ => ?_)
    rw [sitofp_ofBool, rowsV_apply he k (by omega) r, sitofp_expert]
    simp only [Nat.cast_inj, Fin.val_inj, Nat.cast_ite, Nat.cast_one, Nat.cast_zero]

/-- A choice's rank is the number of earlier choices of its expert. -/
theorem rankV_apply (a : Fin 8192) : rankV e (ix2 a 0) = ((upto c a.val (c a) : ℕ) : EReal) := by
  obtain ⟨k, r, hk, rfl⟩ : ∃ (k : ℕ) (r : Fin 256) (hk : k < 32), a = ⟨256 * k + r.val, by omega⟩ :=
    ⟨a.val / 256, ⟨a.val % 256, Nat.mod_lt _ (by norm_num)⟩, by omega, Fin.ext (Nat.div_add_mod a.val 256).symm⟩
  have h1 : (256 * k + r.val) / 256 = k := by omega
  have h2 : (⟨(256 * k + r.val) % 256, Nat.mod_lt _ (by norm_num)⟩ : Fin 256) = r := Fin.ext (by show _ % _ = _; omega)
  show k0_pay17 k0_pay4 (carryV e ((256 * k + r.val) / 256)) (rowsV e ((256 * k + r.val) / 256))
    (ix2 (⟨(256 * k + r.val) % 256, Nat.mod_lt _ (by norm_num)⟩ : Fin 256) 0) = _
  rw [h1, h2]
  unfold k0_pay17 k0_pay16 k0_pay4
  pointwise
  have hs : ∀ y : Fin 256, FloatOps.sitofp (F := Ideal) FTy.f32
      (BitVec.setWidth 32 (IntOp.cmpi CmpIPredicate.sgt (BitVec.ofNat 32 r.val) (BitVec.ofNat 32 y.val)))
        = if y.val < r.val then (1 : EReal) else 0 := by
    intro y
    rw [← sitofp_ofBool]
    unfold IntOp.cmpi
    simp only [BitVec.slt, toInt_ofNat (n := r.val) (by omega), toInt_ofNat (n := y.val) (by omega), Nat.cast_lt]
  simp only [hs, sitofp_ofBool, rowsV_apply he k hk, sitofp_expert, Nat.cast_inj, Fin.val_inj, carryV_apply he k (by omega)]
  simp only [mul_ite, mul_one, mul_zero]
  rw [Finset.sum_ite_eq, if_pos (Finset.mem_univ _)]
  rw [upto_add c (256 * k) r.val (by omega), add_comm, Nat.cast_add, Nat.cast_sum]
  refine congrArg _ ?_
  simp only [Nat.cast_ite, Nat.cast_one, Nat.cast_zero]
  refine Eq.trans (Finset.sum_congr rfl fun y _ => ?_) (sum_below r fun y =>
    if c ⟨256 * k + y.val, by omega⟩ = c ⟨256 * k + r.val, by omega⟩ then (1 : EReal) else 0)
  split_ifs <;> rfl

/-- The rounded counts. -/
theorem pay19_apply (i : Fin 8) :
    IntOp.shli ArithUnit.vector (IntOp.shrsi ArithUnit.vector (IntOp.addi (FloatOps.fptosi 32 (countV e (ix2 0 i))) 255#32) 8#32) 8#32
      = BitVec.ofNat 32 (cap c i) := by
  have h : FloatOps.fptosi (F := Ideal) 32 (countV e (ix2 0 i)) = BitVec.ofNat 32 (total c i) := by
    unfold countV
    rw [carryV_apply he 32 le_rfl i]
    exact fptosi_natCast (lt_of_le_of_lt (total_le c i) (by norm_num))
  rw [h, round_up (total_le c i)]
  rfl

/-- The running sums of the rounded counts are the ends of the stretches. -/
theorem pay20_apply (i : Fin 8) : k0_pay20 (countV e) (ix2 0 i) = BitVec.ofNat 32 (stop c i) := by
  have h := pay19_apply he
  unfold k0_pay20 k0_pay19
  pointwise
  unfold stop
  simp only [h]
  have ha : ∀ a b : ℕ, IntOp.addi (BitVec.ofNat 32 a) (BitVec.ofNat 32 b) = BitVec.ofNat 32 (a + b) :=
    fun a b => (BitVec.ofNat_add a b).symm
  have h0 : (0#32 : BitVec 32) = BitVec.ofNat 32 0 := rfl
  have hf : ∀ i : Fin 8, (∑ j ∈ Finset.univ.filter fun j => j ≤ i, cap c j) = ∑ j, if j ≤ i then cap c j else 0 :=
    fun i => Finset.sum_filter _ _
  rw [hf]
  fin_cases i <;> simp [Fin.sum_univ_succ, h0, ha] <;> exact congrArg _ (by omega)

/-- The starts of the stretches, as floats. -/
theorem pay21_apply (i : Fin 8) : k0_pay21 (countV e) (ix2 0 i) = ((start c i : ℕ) : EReal) := by
  have h := pay19_apply he i
  have h2 := pay20_apply he i
  have hs := stop_eq c i
  have hl := stop_le c i
  unfold k0_pay21
  have h3 : k0_pay19 (countV e) (ix2 0 i) = BitVec.ofNat 32 (cap c i) := by
    unfold k0_pay19
    pointwise
    exact h
  pointwise
  rw [h2, h3]
  have : IntOp.subi (BitVec.ofNat 32 (stop c i)) (BitVec.ofNat 32 (cap c i)) = BitVec.ofNat 32 (start c i) := by
    unfold IntOp.subi
    rw [hs, BitVec.ofNat_add]
    exact BitVec.add_sub_cancel _ _
  rw [this]
  exact sitofp_ofNat (by omega)

/-- The kernel's position of a choice is its place. -/
theorem pos_apply (a : Fin 8192) :
    k0_pay1 (k0_pay21 (countV e)) (k0_pay22 e) (k0_pay23 (F := Ideal) k0_pay4) (rankV e) (ix2 a 0) = BitVec.ofNat 32 (place c a) := by
  unfold k0_pay1 k0_pay22 k0_pay23 k0_pay4
  pointwise
  simp only [sitofp_ofBool, he, sitofp_expert, Nat.cast_inj, Fin.val_inj, pay21_apply he, rankV_apply he]
  simp only [ite_mul, one_mul, zero_mul]
  rw [Finset.sum_ite_eq, if_pos (Finset.mem_univ _), ← Nat.cast_add]
  exact fptosi_natCast (by have := place_lt c a; unfold place at this; omega)

/-- The kernel's expert of the block of a choice's place is the choice's. -/
theorem emap_apply (a : Fin 8192) :
    (k0_pay2 (k0_pay20 (countV e)) (ix2 ⟨place c a / 256, by have := place_lt c a; omega⟩ 0)).toNat = (c a).val := by
  rw [pay2_apply]
  have h : (Finset.univ.filter fun i : Fin 8 => (k0_pay20 (countV e) (ix2 0 i)).toInt
      ≤ 256 * ((⟨place c a / 256, by have := place_lt c a; omega⟩ : Fin 40) : ℤ))
      = Finset.univ.filter fun i : Fin 8 => stop c i ≤ 256 * (place c a / 256) := by
    refine Finset.filter_congr fun i _ => ?_
    rw [pay20_apply he, toInt_ofNat (by have := stop_le c i; omega)]
    push_cast
    norm_cast
  rw [h, stops_before]
  have := (c a).isLt
  omega

end Cert.KernelIdeal.Routing

end
-- ==== Proof.Value.Scatter.lean ====
/-
  Setting the entries of an array of 10240 from 8192 updates at distinct places, and taking rows at the places named by words:
  the form in which the host program sorts the choices by expert and reads the results back.
-/
module

public import proofs.«01_k».proof.Proof.Gen.KernelIdeal
public import proofs.«01_k».proof.Proof.Value.Words
public import Idealize.ShloMosaic.Lib.Pointwise
public import Idealize.ShloMosaic.Lib.Routing.OpsPair
public import Idealize.ShloMosaic.Lib.Routing.OpsSet

@[expose] public section

noncomputable section

namespace Cert.Moe

open Cert.KernelIdeal (S10240 S8192x1 S8192 scatter_S10240_S8192x1_S8192_n_0_0_1)
open Idealize.ShloMosaic

/-- Update `a` lands at entry `p` exactly when its index word, read signed, is `p`. -/
theorem lands_iff (a : Fin 8192) (idx : IVec S8192x1 32) (p : Fin 10240) :
    scatter_S10240_S8192x1_S8192_n_0_0_1.resultIdx? (ix1 a) idx = some (ix1 p) ↔ (idx (ix2 a 0)).toInt = (p.val : Int) := by
  have h1 : scatter_S10240_S8192x1_S8192_n_0_0_1.start (ix1 a) idx 0 = (idx (ix2 a 0)).toInt := by
    show (idx _).toInt = _
    congr 2
    funext b
    fin_cases b <;> rfl
  have h2 : scatter_S10240_S8192x1_S8192_n_0_0_1.window (ix1 a) 0 = 0 := rfl
  refine (Routing.resultIdx?_ix1 scatter_S10240_S8192x1_S8192_n_0_0_1 (ix1 a) idx p).trans ?_
  rw [h1, h2]
  simp

/-- Where the words name distinct places, the entry at the place of `a` is update `a`. -/
theorem scatter_place {α : Type} (x : S10240.Idx → α) (idx : IVec S8192x1 32) (upd : S8192.Idx → α) (f : Fin 8192 → Fin 10240)
    (hf : Function.Injective f) (hidx : ∀ a, idx (ix2 a 0) = BitVec.ofNat 32 (f a).val) (a : Fin 8192) :
    Host.scatter scatter_S10240_S8192x1_S8192_n_0_0_1 (fun _ b => b) x idx upd (ix1 (f a)) = upd (ix1 a) := by
  have hi : ∀ b p, scatter_S10240_S8192x1_S8192_n_0_0_1.resultIdx? (ix1 b) idx = some (ix1 p) ↔ f b = p := by
    intro b p
    rw [lands_iff, hidx, toInt_ofNat (by have := (f b).isLt; omega), Nat.cast_inj, Fin.val_inj]
  refine Routing.scatter_set_hit _ x idx upd _ _ ?_ (ix1 a) ((hi a (f a)).2 rfl)
  intro k hk
  obtain ⟨b, rfl⟩ : ∃ b : Fin 8192, k = ix1 b := ⟨k 0, by funext i; fin_cases i; rfl⟩
  rw [hf ((hi b (f a)).1 hk)]

/-- A word that holds a number below `2 ^ 31` is not shifted. -/
theorem wrap_word {w : BitVec 32} {n : ℕ} (hw : w = BitVec.ofNat 32 n) (h : n < 2 ^ 31) (b : BitVec 32) :
    Scalar.select (IntOp.cmpi .slt w 0#32) b w = BitVec.ofNat 32 n := by
  rw [hw]
  exact Routing.wrap_of_lt _ _ (by rw [BitVec.toNat_ofNat, Nat.mod_eq_of_lt (by omega)]; exact h)

end Cert.Moe

end
-- ==== Proof.Value.Sorted.lean ====
/-
  The host operations around the second call, over any floats: where the routing call has given every choice its own place, they
  put the choice's row and its weight at that place, and after the call they add up the two rows at a token's places.
-/
module

public import proofs.«01_k».proof.Proof.Contents
public import proofs.«01_k».proof.Proof.Value.Scatter

@[expose] public section

noncomputable section

namespace Cert.KernelIdeal.Whole

open Cert.KernelIdeal Cert.KernelIdeal.Gen Cert.Moe
open Idealize.ShloMosaic Idealize.ShloMosaic.TcCoe Idealize.ShloMosaic.Tactic

variable {F : FTy → Type} [FloatOps F] (V : Valuation τ sig (Elt F))

section Before

variable {f : Fin 8192 → Fin 10240} (hf : Function.Injective f)
  (hpos : ∀ a, (V (Proc.devRef .tc main_call0_v1_0) : S8192x1.Idx → BitVec 32) (ix2 a 0) = BitVec.ofNat 32 (f a).val)
include hf hpos

/-- The weight at the place of `a` is that of `a`. -/
theorem sorted_gate (a : Fin 8192) :
    (StableHlo.after hostOps1 V (Proc.devRef .tc main_call0_v30) : S10240x1.Idx → F .f32) (ix2 (f a) 0)
      = (V (Proc.devRef .tc main_call0_v1_1) : S8192x1.Idx → F .f32) (ix2 a 0) := by
  after_reads_at
  refine (scatter_place _ _ _ f hf ?_ a).trans rfl
  intro b
  pointwise
  exact wrap_word (hpos b) (by have := (f b).isLt; omega) _

/-- The row at the place of `a` is that of the token `a` belongs to. -/
theorem sorted_row (a : Fin 8192) (h : Fin 1024) :
    (StableHlo.after hostOps1 V (Proc.devRef .tc main_call0_v29) : S10240x1024.Idx → F .f32) (ix2 (f a) h)
      = (V (Proc.devRef .tc main_call0_v0) : S4096x1024.Idx → F .f32) (ix2 ⟨a.val % 4096, Nat.mod_lt _ (by norm_num)⟩ h) := by
  after_reads_at
  refine Routing.gather_row gather_S4096x1024_S10240x1_S10240x1024_1_0_n_n_0_1_11024 rfl rfl rfl rfl rfl _ _ (f a) h
    (⟨a.val % 4096, Nat.mod_lt _ (by norm_num)⟩ : Fin 4096) ?_ (by norm_num)
  pointwise
  refine wrap_word ?_ (by omega) _
  refine (scatter_place _ _ _ f hf ?_ a).trans ?_
  · intro b
    pointwise
    exact wrap_word (hpos b) (by have := (f b).isLt; omega) _
  · show concatenate S8192 0 [⟨S4096, StableHlo.upto hostOps1 V 4 (Proc.devRef .tc main_call0_v5)⟩,
      ⟨S4096, StableHlo.upto hostOps1 V 4 (Proc.devRef .tc main_call0_v5)⟩] concatenates_S4096_S4096_S8192_d0 (Idealize.ShloMosaic.ix1 a) = _
    rw [show (StableHlo.upto hostOps1 V 4 (Proc.devRef .tc main_call0_v5) : S4096.Idx → BitVec 32) = iotaInDim S4096 32 0 by
      after_reads_simp; rfl]
    pointwise
    split <;> exact congrArg _ (by omega)

end Before

/-- The result's row of a token is the sum of the rows at its two places. -/
theorem sorted_sum {f : Fin 8192 → Fin 10240}
    (hpos : ∀ a, (V (Proc.devRef .tc main_call0_v2) : S8192.Idx → BitVec 32) (Idealize.ShloMosaic.ix1 a) = BitVec.ofNat 32 (f a).val)
    (b : Fin 2) (s : Fin 2048) (h : Fin 1024) :
    (StableHlo.after hostOps2 V (Proc.devRef .tc main_v0) : S2x2048x1024.Idx → F .f32) (ix3 b s h)
      = FloatOps.addf ((V (Proc.devRef .tc main_call0_v33) : S10240x1024.Idx → F .f32) (ix2 (f ⟨b.val * 2048 + s.val, by omega⟩) h))
        ((V (Proc.devRef .tc main_call0_v33) : S10240x1024.Idx → F .f32) (ix2 (f ⟨4096 + (b.val * 2048 + s.val), by omega⟩) h)) := by
  after_reads_at
  refine congrArg₂ _ ?_ ?_
  · refine Routing.gather_row gather_S10240x1024_S4096x1_S4096x1024_1_0_n_n_0_1_11024 rfl rfl rfl rfl rfl _ _ _ h _ ?_ (by norm_num)
    pointwise
    exact wrap_word (hpos _) (lt_trans (Fin.isLt _) (by norm_num)) _
  · refine Routing.gather_row gather_S10240x1024_S4096x1_S4096x1024_1_0_n_n_0_1_11024 rfl rfl rfl rfl rfl _ _ _ h _ ?_ (by norm_num)
    pointwise
    exact wrap_word (hpos _) (lt_trans (Fin.isLt _) (by norm_num)) _

end Cert.KernelIdeal.Whole

end
-- ==== Proof.Value.FfnValue.lean ====
/-
  What the second call leaves over the extended reals: the row at each place is the feed-forward of the row of inputs there, by the
  expert that the table names for the place's block, times the weight there.
-/
module

public import proofs.«01_k».proof.Proof.FfnRegion
public import Idealize.ShloMosaic.Lib.Pipeline.ValueKit.Geometry
public import Idealize.ShloMosaic.Lib.Pipeline.Value
public import Idealize.ShloMosaic.Lib.Pointwise
public import Idealize.ShloMosaic.Lib.Pointwise.Reduce

@[expose] public section

noncomputable section

namespace Cert.KernelIdeal.Ffn

open Cert.KernelIdeal Cert.KernelIdeal.Gen
open Idealize.ShloMosaic Idealize.ShloMosaic.TcCoe Idealize.ShloMosaic.Tactic
open Idealize.ShloMosaic.Pipeline (Dat Cfg Window)

section Blocks

variable {F : FTy → Type} [FloatOps F] (a : (pcfg1 (F := F)).Adm) (V : Dev nD → Valuation τ sig (Elt F)) (c : Dev nD)

/-- The table's entry for block `t`. -/
abbrev entry (t : Fin 40) : BitVec 32 := (a.1 0 : S40.Idx → BitVec 32) (Idealize.ShloMosaic.ix1 t)

theorem index0 (t : Fin (cfg1 a).N) : (pcfg1.win a 0).index t = ![t.val, 0] :=
  (by decide +kernel : ∀ t : Fin grid1.N, cc1_transform_0 (grid1.coords t) = ![t.val, 0]) t
theorem index1 (t : Fin (cfg1 a).N) : (pcfg1.win a 1).index t = ![t.val, 0] :=
  (by decide +kernel : ∀ t : Fin grid1.N, cc1_transform_1 (grid1.coords t) = ![t.val, 0]) t
theorem index6 (t : Fin (cfg1 a).N) : (pcfg1.win a 6).index t = ![t.val, 0] :=
  (by decide +kernel : ∀ t : Fin grid1.N, cc1_transform_6 (grid1.coords t) = ![t.val, 0]) t

theorem off_emb : ∀ t : Fin grid1.N, (Rect.unit (s := S40) ![(Scalar.indexCast (BitVec.ofNat 32 (grid1.coords t 0).val)).toNat] S1.size
    (k1_off1_inb (grid1.coords t))).emb (Shape.Idx.first (numel1_S1.symm ▸ Nat.one_pos)) = (Idealize.ShloMosaic.ix1 (n0 := 40) t : S40.Idx) := by
  intro t
  have h : ∀ t : Fin grid1.N, (Scalar.indexCast (BitVec.ofNat 32 (grid1.coords t 0).val)).toNat = t.val := by decide +kernel
  funext i
  fin_cases i
  refine Fin.ext ?_
  refine (ValueKit.rect_emb_unit_val _ _ _ _ _).trans ?_
  exact (congrArg₂ (· + ·) (h t) rfl).trans (Nat.add_zero _)

theorem index2 (t : Fin (cfg1 a).N) : (pcfg1.win a 2).index t = ![(entry a t).toNat, 0, 0] :=
  congrArg (fun j => (![((a.1 0 : S40.Idx → BitVec 32) j).toNat, 0, 0] : Fin 3 → ℕ)) (off_emb t)
theorem index3 (t : Fin (cfg1 a).N) : (pcfg1.win a 3).index t = ![(entry a t).toNat, 0, 0] :=
  congrArg (fun j => (![((a.1 0 : S40.Idx → BitVec 32) j).toNat, 0, 0] : Fin 3 → ℕ)) (off_emb t)
theorem index4 (t : Fin (cfg1 a).N) : (pcfg1.win a 4).index t = ![(entry a t).toNat, 0, 0] :=
  congrArg (fun j => (![((a.1 0 : S40.Idx → BitVec 32) j).toNat, 0, 0] : Fin 3 → ℕ)) (off_emb t)
theorem index5 (t : Fin (cfg1 a).N) : (pcfg1.win a 5).index t = ![(entry a t).toNat, 0, 0] :=
  congrArg (fun j => (![((a.1 0 : S40.Idx → BitVec 32) j).toNat, 0, 0] : Fin 3 → ℕ)) (off_emb t)

/-- Every block of the result is written back. -/
theorem flush6 (t : Fin (cfg1 a).N) : ((cfg1 a).win 6).flush t = true :=
  (((cfg1 a).win 6).flush_eq_flushOf t).trans
    ((by decide +kernel : ∀ t : Fin grid1.N, Window.flushOf grid1 true cc1_transform_6 t = true) t)

theorem emb0 (t : Fin 40) (r : Fin 256) (k : Fin 1024) :
    (((cfg1 a).win 0).blk t).view.emb (ix2 r k) = (ix2 ⟨256 * t.val + r.val, by omega⟩ k : S10240x1024.Idx) := by
  have h := index0 a t
  blk_ext [h] <;> rw [h] <;> simp <;> omega

theorem emb1 (t : Fin 40) (r : Fin 256) :
    (((cfg1 a).win 1).blk t).view.emb (ix2 r 0) = (ix2 ⟨256 * t.val + r.val, by omega⟩ 0 : S10240x1.Idx) := by
  have h := index1 a t
  blk_ext [h] <;> rw [h] <;> simp <;> omega

theorem emb6 (t : Fin 40) (r : Fin 256) (k : Fin 1024) :
    (((cfg1 a).win 6).blk t).view.emb (ix2 r k) = (ix2 ⟨256 * t.val + r.val, by omega⟩ k : S10240x1024.Idx) := by
  have h := index6 a t
  blk_ext [h] <;> rw [h] <;> simp <;> omega

section Weights

variable (t : Fin 40) (e : Fin 8) (he : (entry a t).toNat = e.val)
include he

theorem emb2 (k : Fin 1024) (f : Fin 2048) : (((cfg1 a).win 2).blk t).view.emb (ix3 0 k f) = (ix3 e k f : S8x1024x2048.Idx) := by
  have h := index2 a t
  rw [he] at h
  blk_ext [h] <;> rw [h] <;> simp

theorem emb3 (f : Fin 2048) : (((cfg1 a).win 3).blk t).view.emb (ix3 0 0 f) = (ix3 e 0 f : S8x1x2048.Idx) := by
  have h := index3 a t
  rw [he] at h
  blk_ext [h] <;> rw [h] <;> simp

theorem emb4 (f : Fin 2048) (k : Fin 1024) : (((cfg1 a).win 4).blk t).view.emb (ix3 0 f k) = (ix3 e f k : S8x2048x1024.Idx) := by
  have h := index4 a t
  rw [he] at h
  blk_ext [h] <;> rw [h] <;> simp

theorem emb5 (k : Fin 1024) : (((cfg1 a).win 5).blk t).view.emb (ix3 0 0 k) = (ix3 e 0 k : S8x1x1024.Idx) := by
  have h := index5 a t
  rw [he] at h
  blk_ext [h] <;> rw [h] <;> simp

theorem blk2_apply (k : Fin 1024) (f : Fin 2048) :
    blkIn a V c 2 t (ix3 0 k f) = (V c (Proc.devRef .tc main_arg2) : S8x1024x2048.Idx → F .f32) (ix3 e k f) :=
  congrArg (V c (Proc.devRef .tc main_arg2) : S8x1024x2048.Idx → F .f32) (emb2 a t e he k f)

theorem blk3_apply (f : Fin 2048) :
    blkIn a V c 3 t (ix3 0 0 f) = (V c (Proc.devRef .tc main_call0_v31) : S8x1x2048.Idx → F .f32) (ix3 e 0 f) :=
  congrArg (V c (Proc.devRef .tc main_call0_v31) : S8x1x2048.Idx → F .f32) (emb3 a t e he f)

theorem blk4_apply (f : Fin 2048) (k : Fin 1024) :
    blkIn a V c 4 t (ix3 0 f k) = (V c (Proc.devRef .tc main_arg4) : S8x2048x1024.Idx → F .f32) (ix3 e f k) :=
  congrArg (V c (Proc.devRef .tc main_arg4) : S8x2048x1024.Idx → F .f32) (emb4 a t e he f k)

theorem blk5_apply (k : Fin 1024) :
    blkIn a V c 5 t (ix3 0 0 k) = (V c (Proc.devRef .tc main_call0_v32) : S8x1x1024.Idx → F .f32) (ix3 e 0 k) :=
  congrArg (V c (Proc.devRef .tc main_call0_v32) : S8x1x1024.Idx → F .f32) (emb5 a t e he k)

end Weights

theorem blk0_apply (t : Fin 40) (r : Fin 256) (k : Fin 1024) :
    blkIn a V c 0 t (ix2 r k) = (V c (Proc.devRef .tc main_call0_v29) : S10240x1024.Idx → F .f32) (ix2 ⟨256 * t.val + r.val, by omega⟩ k) :=
  congrArg (V c (Proc.devRef .tc main_call0_v29) : S10240x1024.Idx → F .f32) (emb0 a t r k)

theorem blk1_apply (t : Fin 40) (r : Fin 256) :
    blkIn a V c 1 t (ix2 r 0) = (V c (Proc.devRef .tc main_call0_v30) : S10240x1.Idx → F .f32) (ix2 ⟨256 * t.val + r.val, by omega⟩ 0) :=
  congrArg (V c (Proc.devRef .tc main_call0_v30) : S10240x1.Idx → F .f32) (emb1 a t r)

/-- The result's row `256 t + r` is row `r` of what point `t` stores. -/
theorem arr_apply (t : Fin 40) (r : Fin 256) (h : Fin 1024) :
    ((dat a V c).arrAt 6 (cfg1 a).N : S10240x1024.Idx → F .f32) (ix2 ⟨256 * t.val + r.val, by omega⟩ h) = outV a V c t (ix2 r h) := by
  have key := (dat a V c).arrAt_emb_eq_flushed 6
    (Window.hdisj_of_index_inj _ fun t t' _ _ e =>
      Fin.ext (congrFun ((index6 a t).symm.trans (e.trans (index6 a t'))) 0)) t (flush6 a t) (ix2 r h)
  rw [← emb6 a t r h]
  exact key

end Blocks

theorem pay1_apply (x : Vec Ideal S256x1024 .f32) (w1 : Vec Ideal S1x1024x2048 .f32) (b1 : Vec Ideal S1x1x2048 .f32)
    (w2 : Vec Ideal S1x2048x1024 .f32) (b2 : Vec Ideal S1x1x1024 .f32) (g : Vec Ideal S256x1 .f32) (r : Fin 256) (h : Fin 1024) :
    k1_pay1 x w1 b1 w2 b2 g (ix2 r h)
      = ((∑ f : Fin 2048, max ((∑ k : Fin 1024, x (ix2 r k) * w1 (ix3 0 k f)) + b1 (ix3 0 0 f)) 0 * w2 (ix3 0 f h)) + b2 (ix3 0 0 h)) * g (ix2 r 0) := by
  unfold k1_pay1
  pointwise

end Cert.KernelIdeal.Ffn

end
-- ==== Proof.Value.Terms.lean ====
/-
  The feed-forward of one expert on one token, over the extended reals: what both programs compute for each token and expert.
-/
module

public import proofs.«01_k».proof.Proof.Gen.KernelIdeal
public import Idealize.ShloMosaic.Lib.IdealHost
public import Idealize.ShloMosaic.Lib.Pointwise

@[expose] public section

noncomputable section

namespace Cert.Moe

open Cert.KernelIdeal (S4096x1024 S8x1024x2048 S8x2048 S8x2048x1024 S8x1024)
open Idealize.ShloMosaic

/-- Component `h` of expert `e`'s feed-forward of the row of token `t`: the row times the first weights, plus the first bias, its
    negative components replaced by 0, times the second weights, plus the second bias. -/
def ffn (x : Vec Ideal S4096x1024 .f32) (w1 : Vec Ideal S8x1024x2048 .f32) (b1 : Vec Ideal S8x2048 .f32)
    (w2 : Vec Ideal S8x2048x1024 .f32) (b2 : Vec Ideal S8x1024 .f32) (t : Fin 4096) (e : Fin 8) (h : Fin 1024) : EReal :=
  (∑ f : Fin 2048, max ((∑ k : Fin 1024, x (ix2 t k) * w1 (ix3 e k f)) + b1 (ix2 e f)) 0 * w2 (ix3 e f h)) + b2 (ix2 e h)

end Cert.Moe

end
-- ==== Proof.Value.KernelValue.lean ====
/-
  The kernel's result over the extended reals: a token's row is the sum, over its two choices, of the chosen expert's feed-forward of
  the token times the choice's weight.
-/
module

public import proofs.«01_k».proof.Proof.Run
public import proofs.«01_k».proof.Proof.Value.Experts
public import proofs.«01_k».proof.Proof.Value.Counts
public import proofs.«01_k».proof.Proof.Value.Sorted
public import proofs.«01_k».proof.Proof.Value.FfnValue
public import proofs.«01_k».proof.Proof.Value.Terms

@[expose] public section

noncomputable section

namespace Cert.KernelIdeal.Whole

open Cert.KernelIdeal Cert.KernelIdeal.Gen Cert.Moe
open Idealize.ShloMosaic Idealize.ShloMosaic.TcCoe Idealize.ShloMosaic.Tactic
open Idealize.ShloMosaic.Pipeline (Dat Cfg BodyObligation afterRegion)

section Parts

variable {F : FTy → Type} [FloatOps F] (m : (ℓ : Loc nD τ sig) → Buf (Elt F) ℓ) (c : Dev nD)

/-- The tokens' rows: the first argument as 4096 rows. -/
abbrev rows : Vec F S4096x1024 .f32 := V1 m c (Proc.devRef .tc main_call0_v0)

/-- The router's weights. -/
abbrev router : Vec F S1024x8 .f32 := m ((c.tc : Thread nD τ).loc main_arg1)

theorem rows_eq : (rows m c : S4096x1024.Idx → F .f32)
    = shapeCast S4096x1024 (m ((c.tc : Thread nD τ).loc main_arg0) : S2x2048x1024.Idx → F .f32) shapeCasts_S2x2048x1024_S4096x1024 := by
  show (StableHlo.after hostOps0 (V0 m c) (Proc.devRef .tc main_call0_v0) : S4096x1024.Idx → F .f32) = _
  after_reads_simp
  rfl

theorem xIn_eq : Routing.xIn (V1 m) c = rows m c := by
  funext i
  refine congrArg (V1 m c (Proc.devRef .tc main_call0_v0)) ?_
  show (win0_0.blk t0_0).view.emb i = i
  blk_ext [] <;> simp <;> rfl

theorem wIn_eq : Routing.wIn (V1 m) c = router m c := by
  rw [show router m c = V1 m c (Proc.devRef .tc main_arg1) from (V1_of m c main_arg1 (by decide)).symm]
  funext i
  refine congrArg (V1 m c (Proc.devRef .tc main_arg1)) ?_
  show (win0_1.blk t0_0).view.emb i = i
  blk_ext [] <;> simp <;> rfl

theorem V3_eq : V3 m (outs m) c = W3 m c := rfl

theorem V2_pos : V2 m (outs m) c (Proc.devRef .tc main_call0_v1_0) = Routing.posV (rows m c) (router m c) := by
  rw [← xIn_eq, ← wIn_eq, ← arr_pos]
  refine Eq.trans ?_ (Pipeline.afterRegion_arr (Routing.dat (V1 m) c) (V1 m c) winFacts0.arr_inj 2)
  show V2 m (outs m) c (Proc.devRef .tc main_call0_v1_0) = W2 m c (Proc.devRef .tc main_call0_v1_0)
  exact (V2_eq m c _ (Pipeline.devRef_mem_ucRefs rfl)).symm

theorem V2_gate : V2 m (outs m) c (Proc.devRef .tc main_call0_v1_1) = Routing.gateV (rows m c) (router m c) := by
  rw [← xIn_eq, ← wIn_eq, ← arr_gate]
  refine Eq.trans ?_ (Pipeline.afterRegion_arr (Routing.dat (V1 m) c) (V1 m c) winFacts0.arr_inj 3)
  show V2 m (outs m) c (Proc.devRef .tc main_call0_v1_1) = W2 m c (Proc.devRef .tc main_call0_v1_1)
  exact (V2_eq m c _ (Pipeline.devRef_mem_ucRefs rfl)).symm

theorem V2_rows : V2 m (outs m) c (Proc.devRef .tc main_call0_v0) = rows m c := V2_of m (outs m) c main_call0_v0 (by decide)

theorem entry_eq (t : Fin 40) : Ffn.entry (adm1 m) t = Routing.emapV (rows m 0) (router m 0) (ix2 t 0) := by
  refine (after1_table (V2 m (outsA m) 0) (Idealize.ShloMosaic.ix1 t)).trans ?_
  show (V2 m (outs m) 0 (Proc.devRef .tc main_call0_v1_2) : S40x1.Idx → BitVec 32) (ix2 t 0) = _
  rw [← V2_eq m 0 _ (Pipeline.devRef_mem_ucRefs rfl), W2_emap, xIn_eq, wIn_eq]

/-- The places are kept for reading the results back. -/
theorem V4_pos (a : Fin 8192) : (V4 m (outs m) c (Proc.devRef .tc main_call0_v2) : S8192.Idx → BitVec 32) (Idealize.ShloMosaic.ix1 a)
    = Routing.posV (rows m c) (router m c) (ix2 a 0) := by
  rw [← V2_pos]
  refine (congrFun (V4_of m (outs m) c main_call0_v2 (by decide)) (Idealize.ShloMosaic.ix1 a)).trans ?_
  show (StableHlo.after hostOps1 (V2 m (outs m) c) (Proc.devRef .tc main_call0_v2) : S8192.Idx → BitVec 32) (Idealize.ShloMosaic.ix1 a) = _
  after_reads_at

theorem V4_out : V4 m (outs m) c (Proc.devRef .tc main_call0_v33) = (Ffn.dat (adm1 m) (W3 m) c).arrAt 6 (cfg1 (adm1 m)).N := by
  refine Eq.trans ?_ (Pipeline.afterRegion_arr (Ffn.dat (adm1 m) (W3 m) c) (W3 m c) winFacts1.arr_inj 6)
  show V4 m (outs m) c (Proc.devRef .tc main_call0_v33) = W4 m c (Proc.devRef .tc main_call0_v33)
  exact (V4_eq m c _ (Pipeline.devRef_mem_ucRefs rfl)).symm

theorem W3_w1 : W3 m c (Proc.devRef .tc main_arg2) = m ((c.tc : Thread nD τ).loc main_arg2) :=
  (V3_of m (outsA m) c main_arg2 (by decide)).trans <| (V2_of m (outsA m) c main_arg2 (by decide)).trans <| (V1_of m c main_arg2 (by decide)).trans rfl
theorem W3_w2 : W3 m c (Proc.devRef .tc main_arg4) = m ((c.tc : Thread nD τ).loc main_arg4) :=
  (V3_of m (outsA m) c main_arg4 (by decide)).trans <| (V2_of m (outsA m) c main_arg4 (by decide)).trans <| (V1_of m c main_arg4 (by decide)).trans rfl
theorem V2_b1 : V2 m (outs m) c (Proc.devRef .tc main_arg3) = m ((c.tc : Thread nD τ).loc main_arg3) :=
  (V2_of m (outs m) c main_arg3 (by decide)).trans <| (V1_of m c main_arg3 (by decide)).trans rfl
theorem V2_b2 : V2 m (outs m) c (Proc.devRef .tc main_arg5) = m ((c.tc : Thread nD τ).loc main_arg5) :=
  (V2_of m (outs m) c main_arg5 (by decide)).trans <| (V1_of m c main_arg5 (by decide)).trans rfl

theorem W3_b1 (e : Fin 8) (f : Fin 2048) : (W3 m c (Proc.devRef .tc main_call0_v31) : S8x1x2048.Idx → F .f32) (ix3 e 0 f)
    = (m ((c.tc : Thread nD τ).loc main_arg3) : S8x2048.Idx → F .f32) (ix2 e f) := by
  rw [← V2_b1 m c]
  show (StableHlo.after hostOps1 (V2 m (outs m) c) (Proc.devRef .tc main_call0_v31) : S8x1x2048.Idx → F .f32) (ix3 e 0 f) = _
  after_reads_at
theorem W3_b2 (e : Fin 8) (h : Fin 1024) : (W3 m c (Proc.devRef .tc main_call0_v32) : S8x1x1024.Idx → F .f32) (ix3 e 0 h)
    = (m ((c.tc : Thread nD τ).loc main_arg5) : S8x1024.Idx → F .f32) (ix2 e h) := by
  rw [← V2_b2 m c]
  show (StableHlo.after hostOps1 (V2 m (outs m) c) (Proc.devRef .tc main_call0_v32) : S8x1x1024.Idx → F .f32) (ix3 e 0 h) = _
  after_reads_at

end Parts

variable (m : (ℓ : Loc nD τ sig) → Buf (Elt Ideal) ℓ) (c : Dev nD)

theorem block_lt (t : Fin 40) (r : Fin 256) : 256 * t.val + r.val < 10240 := by omega

theorem block_split {p : ℕ} (h : p < 10240) : ∃ (t : Fin 40) (r : Fin 256), t.val = p / 256 ∧ p = 256 * t.val + r.val :=
  ⟨⟨p / 256, by omega⟩, ⟨p % 256, by omega⟩, rfl, by dsimp only; omega⟩

/-- The expert of each choice. -/
abbrev ch : Fin 8192 → Fin 8 := Routing.choice (rows m c) (router m c)

/-- The place of each choice. -/
def spot (a : Fin 8192) : Fin 10240 := ⟨place (ch m c) a, place_lt (ch m c) a⟩

theorem spot_inj : Function.Injective (spot m c) := by
  intro a b h
  have h1 : (spot m c a).val = (spot m c b).val := by rw [h]
  unfold spot at h1
  exact place_injective (ch m c) h1

theorem posV_apply (a : Fin 8192) : Routing.posV (rows m c) (router m c) (ix2 a 0) = BitVec.ofNat 32 (spot m c a).val :=
  Routing.pos_apply (Routing.expertV_apply (rows m c) (router m c)) a

/-- Component `h` of expert `e`'s feed-forward of token `t`, of the arguments in memory. -/
abbrev ffnOf (t : Fin 4096) (e : Fin 8) (h : Fin 1024) : EReal :=
  ffn (rows m c) (m ((c.tc : Thread nD τ).loc main_arg2)) (m ((c.tc : Thread nD τ).loc main_arg3))
    (m ((c.tc : Thread nD τ).loc main_arg4)) (m ((c.tc : Thread nD τ).loc main_arg5)) t e h

/-- The row at the place of a choice. -/
theorem row_apply (a : Fin 8192) (h : Fin 1024) :
    (V4 m (outs m) c (Proc.devRef .tc main_call0_v33) : S10240x1024.Idx → EReal) (ix2 (spot m c a) h)
      = ffnOf m c ⟨a.val % 4096, Nat.mod_lt _ (by norm_num)⟩ (ch m c a) h * Routing.gateV (rows m c) (router m c) (ix2 a 0) := by
  obtain rfl : c = 0 := Subsingleton.elim _ _
  have hp : ∀ b, (V2 m (outs m) 0 (Proc.devRef .tc main_call0_v1_0) : S8192x1.Idx → BitVec 32) (ix2 b 0) = BitVec.ofNat 32 (spot m 0 b).val :=
    fun b => (congrFun (V2_pos m 0) (ix2 b 0)).trans (posV_apply m 0 b)
  have hg := (sorted_gate (V2 m (outs m) 0) (spot_inj m 0) hp a).trans (congrFun (V2_gate m 0) (ix2 a 0))
  have hr := fun k => (sorted_row (V2 m (outs m) 0) (spot_inj m 0) hp a k).trans (congrFun (V2_rows m 0) (ix2 _ k))
  obtain ⟨t, r, ht, hq⟩ := block_split (spot m 0 a).isLt
  have hs : spot m 0 a = ⟨256 * t.val + r.val, block_lt t r⟩ := Fin.ext hq
  have he : (Ffn.entry (adm1 m) t).toNat = (ch m 0 a).val := by
    rw [entry_eq]
    have h1 := Routing.emap_apply (Routing.expertV_apply (rows m 0) (router m 0)) a
    have h2 : t = ⟨place (ch m 0) a / 256, ht ▸ t.isLt⟩ := Fin.ext ht
    rw [h2]
    exact h1
  rw [hs] at hg hr ⊢
  refine (congrFun (V4_out m 0) _).trans ((Ffn.arr_apply (adm1 m) (W3 m) 0 t r h).trans ?_)
  refine (Ffn.pay1_apply _ _ _ _ _ _ r h).trans ?_
  refine congrArg₂ (· * ·) (congrArg₂ (· + ·) (Finset.sum_congr rfl fun f _ => congrArg₂ (· * ·) (congrArg₂ max (congrArg₂ (· + ·)
    (Finset.sum_congr rfl fun k _ => congrArg₂ (· * ·) ?_ ?_) ?_) rfl) ?_) ?_) ?_
  · exact (Ffn.blk0_apply (adm1 m) (W3 m) 0 t r k).trans (hr k)
  · exact (Ffn.blk2_apply (adm1 m) (W3 m) 0 t _ he k f).trans (congrFun (W3_w1 m 0) _)
  · exact (Ffn.blk3_apply (adm1 m) (W3 m) 0 t _ he f).trans (W3_b1 m 0 _ f)
  · exact (Ffn.blk4_apply (adm1 m) (W3 m) 0 t _ he f h).trans (congrFun (W3_w2 m 0) _)
  · exact (Ffn.blk5_apply (adm1 m) (W3 m) 0 t _ he h).trans (W3_b2 m 0 _ h)
  · exact (Ffn.blk1_apply (adm1 m) (W3 m) 0 t r).trans hg

theorem mod_first {t : ℕ} (h : t < 4096) : t % 4096 = t := Nat.mod_eq_of_lt h
theorem mod_second {t : ℕ} (h : t < 4096) : (4096 + t) % 4096 = t := by omega

/-- The kernel's result, read at an index. -/
theorem result_apply (b : Fin 2) (s : Fin 2048) (h : Fin 1024) :
    (V5 m (outs m) c (Proc.devRef .tc main_v0) : S2x2048x1024.Idx → EReal) (ix3 b s h)
      = ffnOf m c ⟨b.val * 2048 + s.val, by omega⟩ (first (Routing.logit (rows m c) (router m c) ⟨b.val * 2048 + s.val, by omega⟩)) h
          * Routing.weight1 (Routing.gap (rows m c) (router m c) ⟨b.val * 2048 + s.val, by omega⟩)
        + ffnOf m c ⟨b.val * 2048 + s.val, by omega⟩ (second (Routing.logit (rows m c) (router m c) ⟨b.val * 2048 + s.val, by omega⟩)) h
          * Routing.weight2 (Routing.gap (rows m c) (router m c) ⟨b.val * 2048 + s.val, by omega⟩) := by
  refine (sorted_sum (V4 m (outs m) c) (f := spot m c) (fun a => (V4_pos m c a).trans (posV_apply m c a)) b s h).trans ?_
  have hl : b.val * 2048 + s.val < 4096 := by omega
  refine congrArg₂ (· + ·) ((row_apply m c _ h).trans (congrArg₂ (· * ·) ?_ ?_)) ((row_apply m c _ h).trans (congrArg₂ (· * ·) ?_ ?_))
  · exact congrArg₂ (fun t e => ffnOf m c t e h) (Fin.ext (mod_first hl)) (dif_pos hl)
  · exact Routing.gateV_first (rows m c) (router m c) ⟨b.val * 2048 + s.val, hl⟩
  · refine congrArg₂ (fun t e => ffnOf m c t e h) (Fin.ext (mod_second hl)) ((dif_neg (Nat.not_lt.mpr (Nat.le_add_right _ _))).trans ?_)
    exact congrArg (fun t => second (Routing.logit (rows m c) (router m c) t)) (Fin.ext (Nat.add_sub_cancel_left 4096 _))
  · exact Routing.gateV_second (rows m c) (router m c) ⟨b.val * 2048 + s.val, hl⟩

end Cert.KernelIdeal.Whole

end
-- ==== Proof.Value.TopTwo.lean ====
/-
  The two greatest of eight numbers, as a stable sort gives them: the first greatest, then the first greatest of the others.
-/
module

public import proofs.«01_k».proof.Proof.Value.Choice
public import proofs.«01_k».proof.Proof.Gen.ReferenceIdeal
public import Idealize.ShloMosaic.Lib.SortPrefix
public import Idealize.ShloMosaic.Lib.IdealHost
public import Idealize.ShloMosaic.Lib.Pointwise

@[expose] public section

noncomputable section

namespace Cert.Moe

open Cert.ReferenceIdeal (S4096x8 S4096x2)
open Idealize.ShloMosaic

/-- Breaking ties by the position leaves a stable sort of an ascending list as it is. -/
theorem stableSort_ties {n : ℕ} (B T : Fin n → Fin n → Bool) (hT : ∀ a b, T a b = true → a < b) (l : List (Fin n))
    (hl : l.Pairwise (· < ·)) : stableSort B l = stableSort (fun a b => B a b || T a b) l := by
  induction l with
  | nil => rfl
  | cons a l ih =>
    rw [List.pairwise_cons] at hl
    unfold stableSort
    rw [ih hl.2]
    refine insertBefore_congr _ _ a _ fun b hb => ?_
    have h1 : a < b := hl.1 b ((perm_stableSort _ l).mem_iff.mp hb)
    cases hba : T b a
    · simp
    · exact absurd (hT b a hba) (not_lt.mpr h1.le)

variable (l : Fin 8 → EReal)

/-- "`k`'s entry is greater than `k'`'s". -/
def above (k k' : Fin 8) : Bool := decide (l k' < l k)

/-- The positions of the two choices. -/
def picks : Fin 2 → Fin 8 := ![first l, second l]

variable {l}

theorem sorted_pick (h : ∀ e, l e ≠ ⊥) (i : Fin 2) : sortedFrom (above l) (i.castLE (by omega)) = picks l i := by
  have hB : StrictTotalBefore fun k k' : Fin 8 => decide (l k' < l k) || (decide (l k = l k') && decide (k < k')) := by
    classical
    exact StrictTotalBefore.of_key_then_position (fun a b : EReal => decide (b < a)) l (by simp)
      (fun a b c hab hbc => by simp only [decide_eq_true_eq] at *; exact hbc.trans hab)
      (fun a b => by simp only [decide_eq_true_eq]; rcases lt_trichotomy a b with h | h | h <;> simp [h])
  have he : sortPositions 8 (above l) = sortPositions 8 fun k k' : Fin 8 => decide (l k' < l k) || (decide (l k = l k') && decide (k < k')) := by
    refine stableSort_ties (above l) (fun k k' => decide (l k = l k') && decide (k < k')) (fun a b hab => ?_) _ (List.pairwise_lt_finRange 8)
    simp only [Bool.and_eq_true, decide_eq_true_eq] at hab
    exact hab.2
  have hs : sortedFrom (above l) (i.castLE (by omega)) = sortedFrom (fun k k' : Fin 8 => decide (l k' < l k) || (decide (l k = l k') && decide (k < k'))) (i.castLE (by omega)) := by
    unfold sortedFrom
    simp only [List.get_eq_getElem]
    simp only [he]
    rfl
  rw [hs]
  have hne := second_ne h
  refine hB.sortedFrom_eq_of_prefix (by omega) (picks l) ?_ ?_ ?_ i
  · intro a b hab
    fin_cases a <;> fin_cases b <;> first | rfl | exact absurd hab hne.symm | exact absurd hab hne
  · intro a b hab
    fin_cases a <;> fin_cases b <;> first | exact absurd hab (by decide) | skip
    show (decide (l (first l) < l (second l)) || (decide (l (second l) = l (first l)) && decide (second l < first l))) = false
    have h1 := le_first l (second l)
    simp only [Bool.or_eq_false_iff, Bool.and_eq_false_iff, decide_eq_false_iff_not, not_lt]
    refine ⟨h1, ?_⟩
    by_cases h2 : l (second l) = l (first l)
    · exact Or.inr (first_le l _ h2)
    · exact Or.inl h2
  · intro a p hp
    have hp0 : p ≠ first l := fun e => hp 0 e.symm
    have hp1 : p ≠ second l := fun e => hp 1 e.symm
    fin_cases a
    · show (decide (l (first l) < l p) || (decide (l p = l (first l)) && decide (p < first l))) = false
      simp only [Bool.or_eq_false_iff, Bool.and_eq_false_iff, decide_eq_false_iff_not, not_lt]
      refine ⟨le_first l p, ?_⟩
      by_cases h2 : l p = l (first l)
      · exact Or.inr (first_le l _ h2)
      · exact Or.inl h2
    · show (decide (l (second l) < l p) || (decide (l p = l (second l)) && decide (p < second l))) = false
      simp only [Bool.or_eq_false_iff, Bool.and_eq_false_iff, decide_eq_false_iff_not, not_lt]
      refine ⟨le_second h p hp0, ?_⟩
      by_cases h2 : l p = l (second l)
      · exact Or.inr (second_le h p hp0 h2)
      · exact Or.inl h2

/-- Which way the sort of a row's entries goes. -/
theorem along_eq (t : Fin 4096) (k k' : Fin 8) : (ix2 t k : S4096x8.Idx).along 1 k' = ix2 t k' := by
  funext a
  fin_cases a
  · exact Function.update_of_ne (by decide) _ _
  · exact Function.update_self _ _ _

/-- The comparison of two of a row's entries. -/
theorem above_eq (x : Vec Ideal S4096x8 .f32) (t : Fin 4096) (j k k' : Fin 8) :
    (FloatOps.cmpfTotal (F := Ideal) (φ := .f32) .gt (x ((ix2 t j : S4096x8.Idx).along 1 k)) (x ((ix2 t j : S4096x8.Idx).along 1 k')) == 1#1)
      = above (fun e => x (ix2 t e)) k k' := by
  rw [along_eq, along_eq]
  show (BitVec.ofBool (decide ((x (ix2 t k') : EReal) < x (ix2 t k))) == 1#1) = decide ((x (ix2 t k') : EReal) < x (ix2 t k))
  cases decide ((x (ix2 t k') : EReal) < x (ix2 t k)) <;> rfl

theorem slice_eq (t : Fin 4096) (i : Fin 2) (hs : S4096x8.Slices (fun _ => 0) S4096x2) :
    (fun a => ⟨0 + ((ix2 t i : S4096x2.Idx) (a.cast hs.1.symm)).val,
      Nat.lt_of_lt_of_le (Nat.add_lt_add_left ((ix2 t i : S4096x2.Idx) _).isLt _) (hs.2 a)⟩ : S4096x8.Idx)
      = ix2 t (i.castLE (by omega)) := by
  funext a
  fin_cases a
  · exact Fin.ext (Nat.zero_add _)
  · exact Fin.ext (Nat.zero_add _)

/-- The source position of an entry of the sorted row. -/
theorem source_eq (x : Vec Ideal S4096x8 .f32) (t : Fin 4096) (h : ∀ e, x (ix2 t e) ≠ (⊥ : EReal)) (i : Fin 2) :
    sortedFrom (fun k k' => FloatOps.cmpfTotal (F := Ideal) (φ := .f32) .gt (x ((ix2 t (i.castLE (by omega)) : S4096x8.Idx).along 1 k))
      (x ((ix2 t (i.castLE (by omega)) : S4096x8.Idx).along 1 k')) == 1#1) (i.castLE (by omega) : Fin 8) = picks (fun e => x (ix2 t e)) i := by
  rw [← sorted_pick h i]
  exact congrArg (fun B : Fin 8 → Fin 8 → Bool => sortedFrom B (i.castLE (by omega))) (funext fun k => funext fun k' => above_eq x t _ k k')

/-- The values of the two greatest entries of each row. -/
theorem topK_value (x : Vec Ideal S4096x8 .f32) (hs : S4096x8.Slices (fun _ => 0) S4096x2) (t : Fin 4096)
    (h : ∀ e, x (ix2 t e) ≠ (⊥ : EReal)) (i : Fin 2) :
    (Host.topK S4096x2 1 (FloatOps.cmpfTotal (F := Ideal) (φ := .f32) .gt) x hs).1 (ix2 t i)
      = x (ix2 t (picks (fun e => x (ix2 t e)) i)) := by
  refine (congrArg (Host.sort2 S4096x8 1 (fun l r => FloatOps.cmpfTotal (F := Ideal) (φ := .f32) .gt l.1 r.1) x
    (fun i => iotaInDim S4096x8 32 1 i)).1 (slice_eq t i hs)).trans ?_
  refine congrArg x (((along_eq t _ _)).trans ?_)
  exact congrArg (fun k : Fin 8 => (ix2 t k : S4096x8.Idx)) (source_eq x t h i)

/-- The positions of the two greatest entries of each row. -/
theorem topK_index (x : Vec Ideal S4096x8 .f32) (hs : S4096x8.Slices (fun _ => 0) S4096x2) (t : Fin 4096)
    (h : ∀ e, x (ix2 t e) ≠ (⊥ : EReal)) (i : Fin 2) :
    (Host.topK S4096x2 1 (FloatOps.cmpfTotal (F := Ideal) (φ := .f32) .gt) x hs).2 (ix2 t i)
      = BitVec.ofNat 32 (picks (fun e => x (ix2 t e)) i).val := by
  refine (congrArg (Host.sort2 S4096x8 1 (fun l r => FloatOps.cmpfTotal (F := Ideal) (φ := .f32) .gt l.1 r.1) x
    (fun i => iotaInDim S4096x8 32 1 i)).2 (slice_eq t i hs)).trans ?_
  refine (congrArg (fun i => iotaInDim S4096x8 32 1 i) (along_eq t _ _)).trans ?_
  exact congrArg (fun k : Fin 8 => BitVec.ofNat 32 k.val) (source_eq x t h i)

end Cert.Moe

end
-- ==== Proof.Value.Pieces.lean ====
/-
  The reference's result in pieces: the logits, the gates of the two choices, the matrix that combines the experts, and the experts'
  feed-forwards.
-/
module

public import proofs.«01_k».proof.Proof.Gen.ReferenceIdeal.Run
public import proofs.«01_k».proof.Proof.Value.TopTwo
public import proofs.«01_k».proof.Proof.Value.Words
public import proofs.«01_k».proof.Proof.Value.Scatter
public import Idealize.ShloMosaic.Lib.Pointwise
public import Idealize.ShloMosaic.Lib.Pointwise.Reduce
public import Idealize.ShloMosaic.Lib.Routing.OpsPair

@[expose] public section

noncomputable section

namespace Cert.ReferenceIdeal.Moe

open Cert.ReferenceIdeal Cert.ReferenceIdeal.Gen Cert.Moe
open Idealize.ShloMosaic Idealize.ShloMosaic.Routing

variable {F : FTy → Type} [FloatOps F]

/-- The router's logits. -/
def logits (x : Vec F S4096x1024 .f32) (wr : Vec F S1024x8 .f32) : Vec F S4096x8 .f32 :=
  Host.dotGeneral dot_S4096x1024_S1024x8_S4096x8_1_0_0_1_n_n none x wr

/-- The greatest of a row's two values. -/
def rowMax (v : Vec F S4096x2 .f32) : Vec F S4096 .f32 :=
  maximumf (broadcastInDim S4096 ![] bcast_S_S4096 (constant S_ .f32 0xFF800000#32))
    (Host.reduce FloatOps.maximumf v (constant S_ .f32 0xFF800000#32) reducesTo_S4096x2_S4096_d1 h_S_)

/-- The exponentials of a row's two values less their greatest. -/
def exps (v : Vec F S4096x2 .f32) : Vec F S4096x2 .f32 :=
  Host.exp (subf v (broadcastInDim S4096x2 ![0, 1] bcast_S4096x1_S4096x2_0_1 (broadcastInDim S4096x1 ![0] bcast_S4096_S4096x1_0 (rowMax v))))

/-- The two gates of each row. -/
def gates (v : Vec F S4096x2 .f32) : Vec F S4096x2 .f32 :=
  Host.divf (exps v) (broadcastInDim S4096x2 ![0, 1] bcast_S4096x1_S4096x2_0_1 (broadcastInDim S4096x1 ![0] bcast_S4096_S4096x1_0
    (Host.reduceAdd (exps v) (constant S_ .f32 0x00000000#32) reducesTo_S4096x2_S4096_d1 h_S_)))

/-- The row and the expert of each gate. -/
def places (i : IVec S4096x2 32) : IVec S4096x2x2 32 :=
  concatenate S4096x2x2 2 [⟨S4096x2x1, (broadcastInDim S4096x2x1 ![0, 1] bcast_S4096x2_S4096x2x1_0_1 (broadcastInDim S4096x2 ![0, 1] bcast_S4096x1_S4096x2_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0)))))⟩,
    ⟨S4096x2x1, (broadcastInDim S4096x2x1 ![0, 1] bcast_S4096x2_S4096x2x1_0_1 (select (cmpi .slt i (broadcastInDim S4096x2 ![] bcast_S_S4096x2 (constantI S_ 32 0#32))) (addi i (broadcastInDim S4096x2 ![] bcast_S_S4096x2 (constantI S_ 32 8#32))) i))⟩] concatenates_S4096x2x1_S4096x2x1_S4096x2x2_d2

/-- The weight of each expert in each row. -/
def combine (i : IVec S4096x2 32) (g : Vec F S4096x2 .f32) : Vec F S4096x8 .f32 :=
  Host.scatterAdd scatter_S4096x8_S4096x2x2_S4096x2_n_01_01_2 (broadcastInDim S4096x8 ![] bcast_S_S4096x8 (constant S_ .f32 0x00000000#32))
    (places i) g

/-- The experts' feed-forwards of every token. -/
def experts (x : Vec F S4096x1024 .f32) (w1 : Vec F S8x1024x2048 .f32) (b1 : Vec F S8x2048 .f32)
    (w2 : Vec F S8x2048x1024 .f32) (b2 : Vec F S8x1024 .f32) : Vec F S8x4096x1024 .f32 :=
  addf (Host.dotGeneral dot_S8x4096x2048_S8x2048x1024_S8x4096x1024_2_1_1_2_0_0 none (maximumf (addf (transpose S8x4096x2048 [0, 2, 1] (Host.dotGeneral dot_S8x1024x2048_S4096x1024_S8x2048x4096_1_1_02_0_n_n none w1 x) transposes_S8x2048x4096_S8x4096x2048_0_2_1) (broadcastInDim S8x4096x2048 ![0, 1, 2] bcast_S8x1x2048_S8x4096x2048_0_1_2 (broadcastInDim S8x1x2048 ![0, 2] bcast_S8x2048_S8x1x2048_0_2 b1))) (broadcastInDim S8x4096x2048 ![] bcast_S_S8x4096x2048 (constant S_ .f32 0x00000000#32))) w2) (broadcastInDim S8x4096x1024 ![0, 1, 2] bcast_S8x1x1024_S8x4096x1024_0_1_2 (broadcastInDim S8x1x1024 ![0, 2] bcast_S8x1024_S8x1x1024_0_2 b2))

/-- The two greatest logits of each row, and their experts. -/
def top (x : Vec F S4096x1024 .f32) (wr : Vec F S1024x8 .f32) : Vec F S4096x2 .f32 × IVec S4096x2 32 :=
  Host.topK S4096x2 1 (FloatOps.cmpfTotal .gt) (logits x wr) sliceFits_S4096x8_S4096x2

/-- The result, row by row. -/
def result (x : Vec F S4096x1024 .f32) (wr : Vec F S1024x8 .f32) (w1 : Vec F S8x1024x2048 .f32) (b1 : Vec F S8x2048 .f32)
    (w2 : Vec F S8x2048x1024 .f32) (b2 : Vec F S8x1024 .f32) : Vec F S4096x1024 .f32 :=
  Host.dotGeneral dot_S4096x8_S8x4096x1024_S4096x1024_1_0_n_2_0_1 none (combine (top x wr).2 (gates (top x wr).1)) (experts x w1 b1 w2 b2)

/-- The tokens' rows. -/
def rows (x : Vec F S2x2048x1024 .f32) : Vec F S4096x1024 .f32 := shapeCast S4096x1024 x shapeCasts_S2x2048x1024_S4096x1024

/-- The reference's result is the rows in the argument's shape. -/
theorem res_eq (m : (ℓ : Loc nD τ sig) → Buf (Elt F) ℓ) (c : Dev nD) :
    Value.res_out0 m c = shapeCast S2x2048x1024 (result (rows (m ((c.tc : Thread nD τ).loc main_arg0)))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5))) shapeCasts_S4096x1024_S2x2048x1024 := rfl

/-! ## Each piece at an index, over the extended reals -/

theorem logits_apply (x : Vec Ideal S4096x1024 .f32) (wr : Vec Ideal S1024x8 .f32) (t : Fin 4096) (e : Fin 8) :
    logits x wr (ix2 t e) = ∑ k : Fin 1024, x (ix2 t k) * wr (ix2 k e) := by
  unfold logits
  pointwise

theorem rowMax_apply (v : Vec Ideal S4096x2 .f32) (t : Fin 4096) : rowMax v (Idealize.ShloMosaic.ix1 t) = max (v (ix2 t 0)) (v (ix2 t 1)) := by
  unfold rowMax
  pointwise
  rw [ofBits_bot, show (Finset.univ : Finset (Fin 2)) = {0, 1} from rfl, Finset.fold_insert (by decide), Finset.fold_singleton]
  simp

theorem exps_apply (v : Vec Ideal S4096x2 .f32) (t : Fin 4096) (i : Fin 2) :
    exps v (ix2 t i) = Ideal.exp (v (ix2 t i) - max (v (ix2 t 0)) (v (ix2 t 1))) := by
  unfold exps
  pointwise
  rw [rowMax_apply]

theorem gates_apply (v : Vec Ideal S4096x2 .f32) (t : Fin 4096) (i : Fin 2) :
    gates v (ix2 t i) = Ideal.div (exps v (ix2 t i)) (exps v (ix2 t 0) + exps v (ix2 t 1)) := by
  unfold gates
  pointwise
  rw [Fin.sum_univ_two]

theorem places_row (i : IVec S4096x2 32) (t : Fin 4096) (b : Fin 2) : places i (ix3 t b 0) = BitVec.ofNat 32 t.val := by
  unfold places
  pointwise
  exact wrap_word rfl (by omega) _

theorem places_expert (i : IVec S4096x2 32) (t : Fin 4096) (b : Fin 2) (e : Fin 8) (he : i (ix2 t b) = BitVec.ofNat 32 e.val) :
    places i (ix3 t b 1) = BitVec.ofNat 32 e.val := by
  unfold places
  pointwise
  exact wrap_word he (by omega) _

/-- An accumulating scatter at an index. -/
theorem scatterAdd_apply {s si su : Shape} (d : ScatterDims s si su) (x : Vec Ideal s .f32) (idx : IVec si 32) (u : Vec Ideal su .f32) (i : s.Idx) :
    (Host.scatterAdd (F := Ideal) (φ := .f32) d x idx u i : EReal) = (x i : EReal) + ∑ j ∈ Finset.univ.filter (fun j => d.resultIdx? j idx = some i), (u j : EReal) := rfl

/-- The gates that land on an expert of a row, where the two choices are known. -/
theorem combine_apply (i : IVec S4096x2 32) (g : Vec Ideal S4096x2 .f32) (p : Fin 4096 → Fin 2 → Fin 8)
    (hi : ∀ t b, i (ix2 t b) = BitVec.ofNat 32 (p t b).val) (t : Fin 4096) (e : Fin 8) :
    combine i g (ix2 t e) = (if p t 0 = e then (g (ix2 t 0) : EReal) else 0) + (if p t 1 = e then g (ix2 t 1) else 0) := by
  have hl : ∀ (a : Fin 4096) (b : Fin 2), scatter_S4096x8_S4096x2x2_S4096x2_n_01_01_2.resultIdx? (ix2 a b) (places i) = some (ix2 t e)
      ↔ a = t ∧ p a b = e := by
    intro a b
    refine (scatter_lands2 scatter_S4096x8_S4096x2x2_S4096x2_n_01_01_2 rfl rfl rfl (places i) a b t e).trans ?_
    have h0 : places i (ValueIdx.ix3 a b 0) = BitVec.ofNat 32 a.val := places_row i a b
    have h1 : places i (ValueIdx.ix3 a b 1) = BitVec.ofNat 32 (p a b).val := places_expert i a b (p a b) (hi a b)
    rw [h0, h1, toInt_ofNat (by omega), toInt_ofNat (by omega), Nat.cast_inj, Nat.cast_inj,
      Fin.val_inj, Fin.val_inj]
  have hinj : Function.Injective fun b : Fin 2 => (ix2 t b : S4096x2.Idx) := fun a b h => congrFun h 1
  have hs : (Finset.univ.filter fun j : S4096x2.Idx => scatter_S4096x8_S4096x2x2_S4096x2_n_01_01_2.resultIdx? j (places i) = some (ix2 t e))
      = (Finset.univ.filter fun b : Fin 2 => p t b = e).map ⟨_, hinj⟩ := by
    ext j
    obtain ⟨a, b, rfl⟩ : ∃ (a : Fin 4096) (b : Fin 2), j = ix2 a b := ⟨j 0, j 1, by funext q; fin_cases q <;> rfl⟩
    rw [Finset.mem_filter, hl, Finset.mem_map]
    constructor
    · rintro ⟨-, rfl, h⟩
      exact ⟨b, Finset.mem_filter.mpr ⟨Finset.mem_univ _, h⟩, rfl⟩
    · rintro ⟨b', hb, h⟩
      have h0 : t = a := congrFun h 0
      have h1 : b' = b := congrFun h 1
      subst h0 h1
      exact ⟨Finset.mem_univ _, rfl, (Finset.mem_filter.mp hb).2⟩
  have hz : (broadcastInDim S4096x8 ![] bcast_S_S4096x8 (constant (F := Ideal) S_ .f32 0x00000000#32) : S4096x8.Idx → EReal) (ix2 t e) = 0 := by
    pointwise
  unfold combine
  rw [scatterAdd_apply, hz, zero_add, hs, Finset.sum_map, Finset.sum_filter, Fin.sum_univ_two]
  rfl

theorem experts_apply (x : Vec Ideal S4096x1024 .f32) (w1 : Vec Ideal S8x1024x2048 .f32) (b1 : Vec Ideal S8x2048 .f32)
    (w2 : Vec Ideal S8x2048x1024 .f32) (b2 : Vec Ideal S8x1024 .f32) (e : Fin 8) (t : Fin 4096) (h : Fin 1024) :
    experts x w1 b1 w2 b2 (ix3 e t h)
      = (∑ f : Fin 2048, max ((∑ k : Fin 1024, w1 (ix3 e k f) * x (ix2 t k)) + b1 (ix2 e f)) 0 * w2 (ix3 e f h)) + b2 (ix2 e h) := by
  unfold experts
  pointwise

theorem result_apply (x : Vec Ideal S4096x1024 .f32) (wr : Vec Ideal S1024x8 .f32) (w1 : Vec Ideal S8x1024x2048 .f32) (b1 : Vec Ideal S8x2048 .f32)
    (w2 : Vec Ideal S8x2048x1024 .f32) (b2 : Vec Ideal S8x1024 .f32) (t : Fin 4096) (h : Fin 1024) :
    result x wr w1 b1 w2 b2 (ix2 t h)
      = ∑ e : Fin 8, combine (F := Ideal) (top x wr).2 (gates (top x wr).1) (ix2 t e) * experts x w1 b1 w2 b2 (ix3 e t h) := by
  unfold result
  pointwise

end Cert.ReferenceIdeal.Moe

end
-- ==== Proof.Value.ReferenceValue.lean ====
/-
  The reference's result over the extended reals, where the logits are finite: a token's row is the sum, over its two choices, of the
  choice's gate times the chosen expert's feed-forward of the token.
-/
module

public import proofs.«01_k».proof.Proof.Value.Pieces
public import proofs.«01_k».proof.Proof.Value.Terms
public import proofs.«01_k».proof.Proof.Value.Experts

@[expose] public section

noncomputable section

namespace Cert.ReferenceIdeal.Moe

open Cert.ReferenceIdeal Cert.ReferenceIdeal.Gen Cert.Moe
open Cert.KernelIdeal.Routing (logit weight1 weight2 gap)
open Idealize.ShloMosaic

variable (x : Vec Ideal S4096x1024 .f32) (wr : Vec Ideal S1024x8 .f32)

theorem logits_eq (t : Fin 4096) : (fun e => logits x wr (ix2 t e)) = logit x wr t := funext fun e => logits_apply x wr t e

variable {x wr} (hf : ∀ t e, ∃ r : ℝ, logit x wr t e = r)
include hf

theorem ne_bot (t : Fin 4096) (e : Fin 8) : logits x wr (ix2 t e) ≠ (⊥ : EReal) := by
  obtain ⟨r, hr⟩ := hf t e
  rw [show logits x wr (ix2 t e) = logit x wr t e from logits_apply x wr t e, hr]
  exact EReal.coe_ne_bot r

theorem ne_bot' (t : Fin 4096) (e : Fin 8) : logit x wr t e ≠ ⊥ := by
  obtain ⟨r, hr⟩ := hf t e
  rw [hr]
  exact EReal.coe_ne_bot r

theorem top_value (t : Fin 4096) (i : Fin 2) : (top x wr).1 (ix2 t i) = logit x wr t (picks (logit x wr t) i) := by
  refine (topK_value (logits x wr) _ t (ne_bot hf t) i).trans ?_
  rw [logits_eq]
  exact logits_apply x wr t _

theorem top_index (t : Fin 4096) (i : Fin 2) : (top x wr).2 (ix2 t i) = BitVec.ofNat 32 (picks (logit x wr t) i).val := by
  refine (topK_index (logits x wr) _ t (ne_bot hf t) i).trans ?_
  rw [logits_eq]

/-- The greatest value less itself is 0, so its exponential is 1. -/
theorem exps_first (t : Fin 4096) : (exps (top x wr).1 (ix2 t 0) : EReal) = 1 := by
  rw [exps_apply, top_value hf, top_value hf]
  show Ideal.exp (logit x wr t (first (logit x wr t)) - max (logit x wr t (first (logit x wr t))) (logit x wr t (second (logit x wr t)))) = 1
  rw [max_eq_left (le_first _ _)]
  obtain ⟨r, hr⟩ := hf t (first (logit x wr t))
  rw [hr, ← EReal.coe_sub, sub_self]
  show ((Real.exp 0 : ℝ) : EReal) = 1
  rw [Real.exp_zero]
  rfl

theorem exps_second (t : Fin 4096) : (exps (top x wr).1 (ix2 t 1) : EReal) = Ideal.exp (gap x wr t) := by
  rw [exps_apply, top_value hf, top_value hf]
  show Ideal.exp (logit x wr t (second (logit x wr t)) - max (logit x wr t (first (logit x wr t))) (logit x wr t (second (logit x wr t)))) = _
  rw [max_eq_left (le_first _ _)]
  unfold gap
  rw [hide_second (ne_bot' hf t)]

theorem gates_first (t : Fin 4096) : (gates (top x wr).1 (ix2 t 0) : EReal) = weight1 (gap x wr t) := by
  rw [gates_apply, exps_first hf, exps_second hf]
  rfl

theorem gates_second (t : Fin 4096) : (gates (top x wr).1 (ix2 t 1) : EReal) = weight2 (gap x wr t) := by
  rw [gates_apply, exps_first hf, exps_second hf]
  rfl

omit hf in
/-- A sum weighted by two weights at two different places. -/
theorem sum_two {p q : Fin 8} (h : p ≠ q) (a b : EReal) (y : Fin 8 → EReal) :
    ∑ e, ((if p = e then a else 0) + (if q = e then b else 0)) * y e = y p * a + y q * b := by
  have h1 : ∀ e, ((if p = e then a else 0) + (if q = e then b else 0)) * y e = (if p = e then y e * a else 0) + (if q = e then y e * b else 0) := by
    intro e
    by_cases hp : p = e
    · have hq : q ≠ e := fun hq => h (hp.trans hq.symm)
      simp [hp, hq, mul_comm]
    · by_cases hq : q = e
      · simp [hp, hq, mul_comm]
      · simp [hp, hq]
  simp only [h1]
  rw [Finset.sum_add_distrib, Finset.sum_ite_eq, Finset.sum_ite_eq]
  simp

omit hf in
theorem experts_eq (w1 : Vec Ideal S8x1024x2048 .f32) (b1 : Vec Ideal S8x2048 .f32)
    (w2 : Vec Ideal S8x2048x1024 .f32) (b2 : Vec Ideal S8x1024 .f32) (e : Fin 8) (t : Fin 4096) (h : Fin 1024) :
    (experts x w1 b1 w2 b2 (ix3 e t h) : EReal) = ffn x w1 b1 w2 b2 t e h := by
  rw [experts_apply]
  unfold ffn
  simp only [mul_comm (w1 _) (x _)]

/-- The reference's rows. -/
theorem result_eq (w1 : Vec Ideal S8x1024x2048 .f32) (b1 : Vec Ideal S8x2048 .f32)
    (w2 : Vec Ideal S8x2048x1024 .f32) (b2 : Vec Ideal S8x1024 .f32) (t : Fin 4096) (h : Fin 1024) :
    (result x wr w1 b1 w2 b2 (ix2 t h) : EReal)
      = ffn x w1 b1 w2 b2 t (first (logit x wr t)) h * weight1 (gap x wr t)
        + ffn x w1 b1 w2 b2 t (second (logit x wr t)) h * weight2 (gap x wr t) := by
  rw [result_apply]
  simp only [combine_apply (top x wr).2 (gates (top x wr).1) (fun t i => picks (logit x wr t) i) (top_index hf), experts_eq,
    gates_first hf, gates_second hf]
  exact sum_two (second_ne (ne_bot' hf t)).symm _ _ fun e => ffn x w1 b1 w2 b2 t e h

/-- The reference's result, read at an index. -/
theorem res_apply (x₀ : Vec Ideal S2x2048x1024 .f32) (hx : rows x₀ = x) (w1 : Vec Ideal S8x1024x2048 .f32) (b1 : Vec Ideal S8x2048 .f32)
    (w2 : Vec Ideal S8x2048x1024 .f32) (b2 : Vec Ideal S8x1024 .f32) (b : Fin 2) (s : Fin 2048) (h : Fin 1024) :
    (shapeCast S2x2048x1024 (result (rows x₀) wr w1 b1 w2 b2) shapeCasts_S4096x1024_S2x2048x1024 (ix3 b s h) : EReal)
      = ffn x w1 b1 w2 b2 ⟨b.val * 2048 + s.val, by omega⟩ (first (logit x wr ⟨b.val * 2048 + s.val, by omega⟩)) h
          * weight1 (gap x wr ⟨b.val * 2048 + s.val, by omega⟩)
        + ffn x w1 b1 w2 b2 ⟨b.val * 2048 + s.val, by omega⟩ (second (logit x wr ⟨b.val * 2048 + s.val, by omega⟩)) h
          * weight2 (gap x wr ⟨b.val * 2048 + s.val, by omega⟩) := by
  rw [hx, ← result_eq hf]
  pointwise

end Cert.ReferenceIdeal.Moe

end
-- ==== Proof.Value.Finite.lean ====
/-
  What the precondition gives: the hidden states and the router's weights are real numbers, so the logits are too.
-/
module

public import proofs.«01_k».proof.Pre_finite
public import proofs.«01_k».proof.Proof.Value.Experts
public import Idealize.ShloMosaic.Lib.ReduceAll

@[expose] public section

noncomputable section

namespace Cert.Moe

open Idealize.ShloMosaic

/-- The side conditions of the precondition's operations. -/
theorem finite_facts : Cert.Pre_finite.Facts where
  bcast_S_S2x2048x1024 := by decide
  reducesTo_S2x2048x1024_S_d0_1_2 := by decide
  h_S_ := by decide
  bcast_S_S1024x8 := by decide
  reducesTo_S1024x8_S_d0_1 := by decide

/-- A number whose magnitude is below infinity is a real number. -/
theorem real_of_below {v : EReal} (h : max v (-v) < ⊤) : ∃ r : ℝ, v = r := by
  induction v with
  | bot => simp at h
  | top => simp at h
  | coe r => exact ⟨r, rfl⟩

theorem real_of_test {v w : EReal} (hw : w = ⊤) (h : FloatOps.cmpf (F := Ideal) (φ := .f32) .olt (FloatOps.hostAbsf (F := Ideal) (φ := .f32) v) w = 1#1) :
    ∃ r : ℝ, v = r := by
  subst hw
  refine real_of_below ?_
  by_contra hn
  have h1 : BitVec.ofBool (decide (max v (-v) < ⊤)) = 1#1 := h
  rw [decide_eq_false hn] at h1
  exact absurd h1 (by decide)

section Arguments

variable [Cert.Pre_finite.Facts] {x : FVec Ideal Cert.Pre_finite.S2x2048x1024 .f32} {wr : FVec Ideal Cert.Pre_finite.S1024x8 .f32}
  {w1 : FVec Ideal Cert.Pre_finite.S8x1024x2048 .f32} {b1 : FVec Ideal Cert.Pre_finite.S8x2048 .f32}
  {w2 : FVec Ideal Cert.Pre_finite.S8x2048x1024 .f32} {b2 : FVec Ideal Cert.Pre_finite.S8x1024 .f32}
  (h : Cert.Pre_finite.fn (F := Ideal) x wr w1 b1 w2 b2 = fun _ => 1#1)
include h

theorem tests : Host.reduce IntOp.andi (cmpf .olt (Host.absf x) (broadcastInDim Cert.Pre_finite.S2x2048x1024 ![] Cert.Pre_finite.Facts.bcast_S_S2x2048x1024
      (constant Cert.Pre_finite.S_ .f32 0x7F800000#32))) (constantI Cert.Pre_finite.S_ 1 1#1) Cert.Pre_finite.Facts.reducesTo_S2x2048x1024_S_d0_1_2
      Cert.Pre_finite.Facts.h_S_ (fun a => a.elim0) = 1#1
    ∧ Host.reduce IntOp.andi (cmpf .olt (Host.absf wr) (broadcastInDim Cert.Pre_finite.S1024x8 ![] Cert.Pre_finite.Facts.bcast_S_S1024x8
      (constant Cert.Pre_finite.S_ .f32 0x7F800000#32))) (constantI Cert.Pre_finite.S_ 1 1#1) Cert.Pre_finite.Facts.reducesTo_S1024x8_S_d0_1
      Cert.Pre_finite.Facts.h_S_ (fun a => a.elim0) = 1#1 :=
  IntOp.andi_eq_one.1 (congrFun h fun a => a.elim0)

theorem hidden_real (i : Cert.Pre_finite.S2x2048x1024.Idx) : ∃ r : ℝ, (x i : EReal) = r :=
  haveI : Subsingleton Cert.Pre_finite.S_.Idx := ⟨fun _ _ => funext fun a => a.elim0⟩
  real_of_test (ofBits_top) (Host.reduce_andi_all _ _ _ _ _ (tests h).1 i)

theorem router_real (i : Cert.Pre_finite.S1024x8.Idx) : ∃ r : ℝ, (wr i : EReal) = r :=
  haveI : Subsingleton Cert.Pre_finite.S_.Idx := ⟨fun _ _ => funext fun a => a.elim0⟩
  real_of_test (ofBits_top) (Host.reduce_andi_all _ _ _ _ _ (tests h).2 i)

end Arguments

/-- A sum of products of real numbers is a real number. -/
theorem logit_real {x : Vec Ideal Cert.KernelIdeal.S4096x1024 .f32} {wr : Vec Ideal Cert.KernelIdeal.S1024x8 .f32}
    (hx : ∀ i, ∃ r : ℝ, (x i : EReal) = r) (hw : ∀ i, ∃ r : ℝ, (wr i : EReal) = r) (t : Fin 4096) (e : Fin 8) :
    ∃ r : ℝ, Cert.KernelIdeal.Routing.logit x wr t e = r := by
  refine Finset.sum_induction _ (fun v : EReal => ∃ r : ℝ, v = r) ?_ ⟨0, rfl⟩ ?_
  · rintro _ _ ⟨a, rfl⟩ ⟨b, rfl⟩
    exact ⟨a + b, (EReal.coe_add a b).symm⟩
  · intro k _
    obtain ⟨a, ha⟩ := hx (ix2 t k)
    obtain ⟨b, hb⟩ := hw (ix2 k e)
    exact ⟨a * b, by rw [ha, hb, EReal.coe_mul]⟩

end Cert.Moe

end
-- ==== Proof.Value.Equation.lean ====
/-
  The kernel and the reference have one result over the extended reals, of arguments whose hidden states and router's weights are real
  numbers.
-/
module

public import proofs.«01_k».proof.Proof.Value.KernelValue
public import proofs.«01_k».proof.Proof.Value.ReferenceValue
public import proofs.«01_k».proof.Proof.Value.Finite

@[expose] public section

noncomputable section

namespace Cert.Moe

open Cert.KernelIdeal Cert.KernelIdeal.Gen Cert.KernelIdeal.Whole
open Idealize.ShloMosaic Idealize.ShloMosaic.TcCoe

variable [Cert.Pre_finite.Facts] (m : (ℓ : Loc nD τ sig) → Buf (Elt Ideal) ℓ) (c : Dev nD)
  (hp : Cert.Pre_finite.fn (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) = fun _ => 1#1)
include hp

/-- Every logit is a real number. -/
theorem logits_real (t : Fin 4096) (e : Fin 8) : ∃ r : ℝ, Routing.logit (rows m c) (router m c) t e = r := by
  refine logit_real (fun i => ?_) (router_real hp) t e
  rw [rows_eq]
  exact hidden_real hp _

/-- The kernel's result is the reference's. -/
theorem equation : (V5 m (outs m) c (Proc.devRef .tc main_v0) : S2x2048x1024.Idx → EReal)
    = shapeCast S2x2048x1024 (Cert.ReferenceIdeal.Moe.result (F := Ideal) (Cert.ReferenceIdeal.Moe.rows (m ((c.tc : Thread nD τ).loc main_arg0)))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5))) Cert.ReferenceIdeal.Gen.shapeCasts_S4096x1024_S2x2048x1024 := by
  funext i
  obtain ⟨b, s, h, rfl⟩ : ∃ (b : Fin 2) (s : Fin 2048) (h : Fin 1024), i = ix3 b s h := ⟨i 0, i 1, i 2, by funext q; fin_cases q <;> rfl⟩
  refine (Whole.result_apply m c b s h).trans ?_
  exact (Cert.ReferenceIdeal.Moe.res_apply (x := rows m c) (wr := router m c) (logits_real m c hp) (m ((c.tc : Thread nD τ).loc main_arg0))
    (rows_eq m c).symm (m ((c.tc : Thread nD τ).loc main_arg2)) (m ((c.tc : Thread nD τ).loc main_arg3))
    (m ((c.tc : Thread nD τ).loc main_arg4)) (m ((c.tc : Thread nD τ).loc main_arg5)) b s h).symm

end Cert.Moe

end
-- ==== Proof.lean ====
/-
  The claims of this directory, put together: the program and its idealization run to the end, leave their arguments and every counter as
  they were, and the idealization's result is the reference's.
-/
module

public import proofs.«01_k».proof.Defs
public import proofs.«01_k».proof.Proof.Machine.Run
public import proofs.«01_k».proof.Proof.Run
public import proofs.«01_k».proof.Proof.Gen.ReferenceIdeal.Run
public import proofs.«01_k».proof.Proof.Value.Equation
public import Idealize.ShloMosaic.Lib.Quiescent

@[expose] public section

noncomputable section

namespace Cert.Proof

open Idealize.ShloMosaic Idealize.SL.Sem

/-- The kernel as printed runs, its arguments and its counters as before. -/
theorem frame_kernel : Cert.quiescent_Kernel := fun m g _ =>
  (θ_run Cert.Kernel.defs _ _).mono (fun _ h =>
    ⟨fun c => ⟨(h.1 c).1, (h.1 c).2.1, (h.1 c).2.2.1, (h.1 c).2.2.2.1, (h.1 c).2.2.2.2.1, (h.1 c).2.2.2.2.2.1⟩, h.2⟩)
    (Cert.Kernel.Whole.run (F := Bits) m g)

/-- The kernel over the extended reals runs, its arguments and its counters as before. -/
theorem frame_ideal : Cert.quiescent_KernelIdeal := fun m g _ =>
  (θ_run Cert.KernelIdeal.defs _ _).mono (fun _ h =>
    ⟨fun c => ⟨(h.1 c).1, (h.1 c).2.1, (h.1 c).2.2.1, (h.1 c).2.2.2.1, (h.1 c).2.2.2.2.1, (h.1 c).2.2.2.2.2.1⟩, h.2⟩)
    (Cert.KernelIdeal.Whole.run (F := Ideal) m g)

/-- The reference over the extended reals runs, its arguments as before; it declares no semaphore. -/
theorem frame_reference : Cert.quiescent_ReferenceIdeal := fun m g _ =>
  (θ_run Cert.ReferenceIdeal.defs _ _).mono (fun r h =>
    ⟨fun c => (h c).2, Idealize.ShloMosaic.sem_eq_zero_of_no_sems (by decide) r.2⟩)
    (Cert.ReferenceIdeal.Value.run (F := Ideal) m g)

attribute [local instance] Cert.Moe.finite_facts

/-- What the kernel's frame states holds of finite arguments too. -/
theorem frame_ideal_finite : Cert.quiescent_KernelIdeal_pre_finite := fun m g _ => frame_ideal m g trivial

/-- What the reference's frame states holds of finite arguments too. -/
theorem frame_reference_finite : Cert.quiescent_ReferenceIdeal_pre_finite := fun m g _ => frame_reference m g trivial

/-- Over the extended reals, of hidden states and router's weights that are real numbers, the kernel's result is the reference's. -/
theorem algebraic : Cert.algebraic_KernelIdeal_ReferenceIdeal_pre_finite := fun m g m' g' hp ha =>
  ⟨fun c => Cert.KernelIdeal.Gen.V5 m (Cert.KernelIdeal.Whole.outs m) c (Proc.devRef .tc Cert.KernelIdeal.main_v0),
    (θ_run Cert.KernelIdeal.defs _ _).mono (fun _ h c => ⟨(h.1 c).2.2.2.2.2.2, (h.1 c).1, (h.1 c).2.1, (h.1 c).2.2.1, (h.1 c).2.2.2.1,
      (h.1 c).2.2.2.2.1, (h.1 c).2.2.2.2.2.1⟩) (Cert.KernelIdeal.Whole.run (F := Ideal) m g),
    (θ_run Cert.ReferenceIdeal.defs _ _).mono (fun _ h c => ⟨(h c).1.trans (by
      refine (Cert.ReferenceIdeal.Moe.res_eq m' c).trans (Eq.trans ?_ (Cert.Moe.equation m c (hp c)).symm)
      rw [(ha c).1, (ha c).2.1, (ha c).2.2.1, (ha c).2.2.2.1, (ha c).2.2.2.2.1, (ha c).2.2.2.2.2]), (h c).2⟩)
      (Cert.ReferenceIdeal.Value.run (F := Ideal) m' g')⟩

theorem claim : Cert.Claim := ⟨Cert.Kernel.Gen.facts, Cert.KernelIdeal.Gen.facts, Cert.ReferenceIdeal.Gen.facts, Cert.Moe.finite_facts,
  frame_kernel, frame_ideal, frame_ideal_finite, frame_reference, frame_reference_finite, trivial, algebraic⟩

end Cert.Proof

end
